-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1536x3584 : Shape := ⟨3, ![2, 1536, 3584]⟩
abbrev S2x1536x7168 : Shape := ⟨3, ![2, 1536, 7168]⟩
abbrev S_ : Shape := ⟨0, ![]⟩

class Facts : Prop where
  bcast_S_S2x1536x3584 : S_.BroadcastsInDim S2x1536x3584 (![] : Fin 0 → Fin S2x1536x3584.rank)
  bcast_S_S2x1536x7168 : S_.BroadcastsInDim S2x1536x7168 (![] : Fin 0 → Fin S2x1536x7168.rank)

variable [Facts]

def fn {F : FTy → Type} [FloatOps F] (main_arg0 : FVec F S2x1536x3584 .bf16) (main_arg1 : FVec F S2x1536x7168 .bf16) : IVec S2x1536x3584 1 × IVec S2x1536x7168 1 :=
  let main_v0 : FVec F S2x1536x3584 .bf16 := Host.absf main_arg0
  let main_cst : FVec F S_ .bf16 := constant S_ .bf16 0x7F7F#16
  let main_v1 : FVec F S2x1536x3584 .bf16 := broadcastInDim S2x1536x3584 ![] bcast_S_S2x1536x3584 main_cst
  let main_v2 : IVec S2x1536x3584 1 := cmpf .ole main_v0 main_v1
  let main_v3 : FVec F S2x1536x7168 .bf16 := Host.absf main_arg1
  let main_cst_0 : FVec F S_ .bf16 := constant S_ .bf16 0x7F7F#16
  let main_v4 : FVec F S2x1536x7168 .bf16 := broadcastInDim S2x1536x7168 ![] bcast_S_S2x1536x7168 main_cst_0
  let main_v5 : IVec S2x1536x7168 1 := cmpf .ole main_v3 main_v4
  (main_v2, main_v5)
-- ==== Kernel.lean ====
abbrev S2x1536x3584 : Shape := ⟨3, ![2, 1536, 3584]⟩
abbrev S2x1536x7168 : Shape := ⟨3, ![2, 1536, 7168]⟩
abbrev S3072x3584 : Shape := ⟨2, ![3072, 3584]⟩
abbrev S3072x7168 : Shape := ⟨2, ![3072, 7168]⟩
abbrev S3584x3072 : Shape := ⟨2, ![3584, 3072]⟩
abbrev S3584x24 : Shape := ⟨2, ![3584, 24]⟩
abbrev S3072x512 : Shape := ⟨2, ![3072, 512]⟩
abbrev S512x3072 : Shape := ⟨2, ![512, 3072]⟩
abbrev S512x24 : Shape := ⟨2, ![512, 24]⟩
abbrev S24x512 : Shape := ⟨2, ![24, 512]⟩
abbrev S128x512 : Shape := ⟨2, ![128, 512]⟩
abbrev S512 : Shape := ⟨1, ![512]⟩
abbrev S1x512 : Shape := ⟨2, ![1, 512]⟩
abbrev S256x1 : Shape := ⟨2, ![256, 1]⟩
abbrev S256x512 : Shape := ⟨2, ![256, 512]⟩
abbrev S512x128 : Shape := ⟨2, ![512, 128]⟩
abbrev S3584x7168 : Shape := ⟨2, ![3584, 7168]⟩
abbrev S7168x3072 : Shape := ⟨2, ![7168, 3072]⟩
abbrev S7168x24 : Shape := ⟨2, ![7168, 24]⟩
abbrev S3584x512 : Shape := ⟨2, ![3584, 512]⟩

abbrev nBuf : Space → Nat
  | .hbm => 10
  | .vmem => 20
  | .smem => 0
  | _ => 0

abbrev bufTy : (tb : Table) → Fin (tcTables nBuf tb) → BufTy
  | .hbm, ⟨0, _⟩ => ⟨S2x1536x3584, .bf16⟩
  | .hbm, ⟨1, _⟩ => ⟨S2x1536x7168, .bf16⟩
  | .hbm, ⟨2, _⟩ => ⟨S3072x3584, .bf16⟩
  | .hbm, ⟨3, _⟩ => ⟨S3072x7168, .bf16⟩
  | .hbm, ⟨4, _⟩ => ⟨S3584x3072, .fp8e4m3⟩
  | .hbm, ⟨5, _⟩ => ⟨S3584x24, .f32⟩
  | .hbm, ⟨6, _⟩ => ⟨S3584x3072, .bf16⟩
  | .hbm, ⟨7, _⟩ => ⟨S3584x7168, .f32⟩
  | .hbm, ⟨8, _⟩ => ⟨S7168x3072, .fp8e5m2⟩
  | .hbm, ⟨9, _⟩ => ⟨S7168x24, .f32⟩
  | .local _ .vmem, ⟨0, _⟩ => ⟨S3072x512, .bf16⟩
  | .local _ .vmem, ⟨1, _⟩ => ⟨S3072x512, .bf16⟩
  | .local _ .vmem, ⟨2, _⟩ => ⟨S512x3072, .fp8e4m3⟩
  | .local _ .vmem, ⟨3, _⟩ => ⟨S512x3072, .fp8e4m3⟩
  | .local _ .vmem, ⟨4, _⟩ => ⟨S512x24, .f32⟩
  | .local _ .vmem, ⟨5, _⟩ => ⟨S512x24, .f32⟩
  | .local _ .vmem, ⟨6, _⟩ => ⟨S512x3072, .bf16⟩
  | .local _ .vmem, ⟨7, _⟩ => ⟨S512x3072, .bf16⟩
  | .local _ .vmem, ⟨8, _⟩ => ⟨S24x512, .f32⟩
  | .local _ .vmem, ⟨9, _⟩ => ⟨S3072x512, .bf16⟩
  | .local _ .vmem, ⟨10, _⟩ => ⟨S3072x512, .bf16⟩
  | .local _ .vmem, ⟨11, _⟩ => ⟨S3584x3072, .bf16⟩
  | .local _ .vmem, ⟨12, _⟩ => ⟨S3584x512, .f32⟩
  | .local _ .vmem, ⟨13, _⟩ => ⟨S3584x512, .f32⟩
  | .local _ .vmem, ⟨14, _⟩ => ⟨S512x3072, .fp8e5m2⟩
  | .local _ .vmem, ⟨15, _⟩ => ⟨S512x3072, .fp8e5m2⟩
  | .local _ .vmem, ⟨16, _⟩ => ⟨S512x24, .f32⟩
  | .local _ .vmem, ⟨17, _⟩ => ⟨S512x24, .f32⟩
  | .local _ .vmem, ⟨18, _⟩ => ⟨S3072x512, .bf16⟩
  | .local _ .vmem, ⟨19, _⟩ => ⟨S24x512, .f32⟩
  | _, _ => ⟨S2x1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![14], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3072x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3584x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3584x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x3072 .fp8e5m2 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x24 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S2x1536x3584 : Shape := ⟨3, ![2, 1536, 3584]⟩
abbrev S2x1536x7168 : Shape := ⟨3, ![2, 1536, 7168]⟩
abbrev S3584x7168 : Shape := ⟨2, ![3584, 7168]⟩
abbrev S3584x3072 : Shape := ⟨2, ![3584, 3072]⟩
abbrev S3584x24 : Shape := ⟨2, ![3584, 24]⟩
abbrev S7168x3072 : Shape := ⟨2, ![7168, 3072]⟩
abbrev S7168x24 : Shape := ⟨2, ![7168, 24]⟩
abbrev S3072x3584 : Shape := ⟨2, ![3072, 3584]⟩
abbrev S24x128x3584 : Shape := ⟨3, ![24, 128, 3584]⟩
abbrev S24x3584 : Shape := ⟨2, ![24, 3584]⟩
abbrev S24x1x3584 : Shape := ⟨3, ![24, 1, 3584]⟩
abbrev S3072x7168 : Shape := ⟨2, ![3072, 7168]⟩
abbrev S24x128x7168 : Shape := ⟨3, ![24, 128, 7168]⟩
abbrev S24x7168 : Shape := ⟨2, ![24, 7168]⟩
abbrev S24x1x7168 : Shape := ⟨3, ![24, 1, 7168]⟩
abbrev S3584x24x1 : Shape := ⟨3, ![3584, 24, 1]⟩
abbrev S3584x24x128 : Shape := ⟨3, ![3584, 24, 128]⟩
abbrev S7168x24x1 : Shape := ⟨3, ![7168, 24, 1]⟩
abbrev S7168x24x128 : Shape := ⟨3, ![7168, 24, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x1536x3584, .bf16⟩
  | .hbm, ⟨1, _⟩ => ⟨S2x1536x7168, .bf16⟩
  | .hbm, ⟨2, _⟩ => ⟨S3584x7168, .f32⟩
  | .hbm, ⟨3, _⟩ => ⟨S3584x3072, .fp8e4m3⟩
  | .hbm, ⟨4, _⟩ => ⟨S3584x24, .f32⟩
  | .hbm, ⟨5, _⟩ => ⟨S7168x3072, .fp8e5m2⟩
  | .hbm, ⟨6, _⟩ => ⟨S7168x24, .f32⟩
  | .local _ .vmem, ⟨0, _⟩ => ⟨S2x1536x3584, .bf16⟩
  | .local _ .vmem, ⟨1, _⟩ => ⟨S2x1536x7168, .bf16⟩
  | .local _ .vmem, ⟨2, _⟩ => ⟨S3584x7168, .f32⟩
  | .local _ .vmem, ⟨3, _⟩ => ⟨S3584x3072, .fp8e4m3⟩
  | .local _ .vmem, ⟨4, _⟩ => ⟨S3584x24, .f32⟩
  | .local _ .vmem, ⟨5, _⟩ => ⟨S7168x3072, .fp8e5m2⟩
  | .local _ .vmem, ⟨6, _⟩ => ⟨S7168x24, .f32⟩
  | _, _ => ⟨S2x1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x1536x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1536x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x3072 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Blocks.lean ====
/- One 128-token block of the kernel's body as functions of the loaded block, at any float model. -/
module

public import proofs.«01_k».proof.Proof.Gen.KernelIdeal.Frame
public import Idealize.ShloMosaic.Lib.Pointwise
public import Idealize.ShloMosaic.Lib.WholeRead
public import Idealize.ShloMosaic.Lib.Pipeline.ValueKit.Tiles

@[expose] public section

set_option maxRecDepth 16384

noncomputable section

namespace Cert.Proof.Blocks

open Cert.KernelIdeal Cert.KernelIdeal.Gen Idealize.ShloMosaic Idealize.ShloMosaic.TcCoe Idealize.SL.Sem

variable {F : FTy → Type} [FloatOps F]

/-- The block's largest magnitude in each channel, times the constant `rw` (one over the format's largest value). -/
def ratioB (rw : BitVec 32) (v : Vec F S128x512 .bf16) : FVec F S1x512 .f32 :=
  mulf (extf .f32 (shapeCast S1x512 (multiReduction .maximumf [0] S512 (absf (shapeCast S128x512 v shapeCasts_S128x512_S128x512))
    0xFF80#16 reduces_S128x512_S512 (.inr rfl) rfl) shapeCasts_S512_S1x512) bitsLt_bf16_f32) (broadcast S1x512 (Scalar.ofBits .f32 rw))

/-- How many of the words 2^-126 .. 2^127, inf each channel's ratio is not below. -/
def countB (r : FVec F S1x512 .f32) : IVec S1x512 32 :=
  shapeCast S1x512 (multiReductionI .add [0] S512 (select (andi (xori (cmpf .olt (broadcastTo S256x512 r broadcasts_S1x512_S256x512)
    (broadcastTo S256x512 (bitcastToFloat .f32 (shli (iota .tc S256x1 32 [0] iota_S256x1_d0_w32) (broadcast S256x1 23#32))) broadcasts_S256x1_S256x512))
    (constantI S256x512 1 1#1)) (broadcastTo S256x512 (cmpi .sgt (iota .tc S256x1 32 [0] iota_S256x1_d0_w32) (broadcast S256x1 0#32)) broadcasts_S256x1_S256x512))
    (broadcast S256x512 1#32) (broadcast S256x512 0#32)) 0#32 reduces_S256x512_S512 rfl) shapeCasts_S512_S1x512

/-- The exponent field the scale is made from: the count, or the bias less one where the count is 0. -/
def fieldB (n : IVec S1x512 32) : IVec S1x512 32 :=
  select (cmpi .eq n (broadcast S1x512 0#32)) (broadcast S1x512 126#32) n

/-- The scale of each channel. -/
def scaleB (rw : BitVec 32) (v : Vec F S128x512 .bf16) : FVec F S1x512 .f32 :=
  bitcastToFloat .f32 (shli (addi (fieldB (countB (ratioB rw v))) (broadcast S1x512 1#32)) (broadcast S1x512 23#32))

/-- The inverse scale of each channel. -/
def invB (rw : BitVec 32) (v : Vec F S128x512 .bf16) : FVec F S1x512 .f32 :=
  bitcastToFloat .f32 (shli (subi (broadcast S1x512 253#32) (fieldB (countB (ratioB rw v)))) (broadcast S1x512 23#32))

/-- The block over its scale, clipped to `[lo, hi]`. -/
def clipB (rw lo hi : BitVec 32) (v : Vec F S128x512 .bf16) : FVec F S128x512 .bf16 :=
  minimumf (broadcast S128x512 (Scalar.truncf .bf16 bitsLt_bf16_f32 (Scalar.ofBits .f32 hi)))
    (maximumf (broadcast S128x512 (Scalar.truncf .bf16 bitsLt_bf16_f32 (Scalar.ofBits .f32 lo)))
      (mulf (shapeCast S128x512 v shapeCasts_S128x512_S128x512)
        (broadcastTo S128x512 (truncf .bf16 (invB rw v) bitsLt_bf16_f32) broadcasts_S1x512_S128x512)))

/-- The codes, read back at bf16. -/
def wideB (φ : FTy) (hφ : φ.bits < FTy.bf16.bits) (rw lo hi : BitVec 32) (v : Vec F S128x512 .bf16) : FVec F S128x512 .bf16 :=
  extf .bf16 (truncf φ (clipB rw lo hi v) hφ) hφ

/-- The codes as stored, a row per channel. -/
def codesB (φ : FTy) (hφ : φ.bits < FTy.bf16.bits) (rw lo hi : BitVec 32) (v : Vec F S128x512 .bf16) : FVec F S512x128 φ :=
  truncf φ (transpose S512x128 [1, 0] (wideB φ hφ rw lo hi v) transposes_S128x512_p1_0_S512x128) hφ

/-- Codes times scale at bf16: what the weight gradient multiplies. -/
def prodB (φ : FTy) (hφ : φ.bits < FTy.bf16.bits) (rw lo hi : BitVec 32) (v : Vec F S128x512 .bf16) : FVec F S128x512 .bf16 :=
  mulf (wideB φ hφ rw lo hi v) (broadcastTo S128x512 (truncf .bf16 (scaleB rw v) bitsLt_bf16_f32) broadcasts_S1x512_S128x512)

/-- The blocks in the order a list of stores, newest first, has them. -/
abbrev rev (b : Fin 24) : Fin 24 := ⟨23 - b.val, by omega⟩

theorem inbL (b : Fin 24) : ∀ a, (![128 * b.val, 0] : Fin 2 → ℕ) a + S128x512.size a ≤ S3072x512.size a := by
  intro a; fin_cases a <;> simp [S128x512, S3072x512] <;> omega
theorem inbC (b : Fin 24) : ∀ a, (![0, 128 * b.val] : Fin 2 → ℕ) a + S512x128.size a ≤ S512x3072.size a := by
  intro a; fin_cases a <;> simp [S512x128, S512x3072] <;> omega
theorem inbS (b : Fin 24) : ∀ a, (![b.val, 0] : Fin 2 → ℕ) a + S1x512.size a ≤ S24x512.size a := by
  intro a; fin_cases a <;> simp [S24x512, S1x512] <;> omega

/-- Block `b` of a tile: tokens `128 b` to `128 b + 127`. -/
def blk {α : Type} (X : S3072x512.Idx → α) (b : Fin 24) : S128x512.Idx → α :=
  fun j => X (ix2 ⟨128 * b.val + (j 0).val, by have : (j 0).val < 128 := (j 0).isLt; omega⟩ (j 1))

/-- Block `b` of a tile as the body loads it. -/
abbrev ldB (arg1 : Memref sig .tc .vmem S3072x512 .bf16) (harg1 : arg1.IsWhole) (x0 : Vec F S3072x512 .bf16) (b : Fin 24) : Vec F S128x512 .bf16 :=
  View.readAt (Elt F) arg1.view (Rect.unit (s := S3072x512) ![128 * b.val, 0] S128x512.size (inbL b)).toLoadRect (harg1.unread x0)

theorem ldB_eq (arg1 : Memref sig .tc .vmem S3072x512 .bf16) (harg1 : arg1.IsWhole) (x0 : Vec F S3072x512 .bf16) (b : Fin 24) :
    ldB arg1 harg1 x0 b = blk x0 b := by
  funext j
  refine (Memref.IsWhole.readAt_unread harg1 x0 (Rect.unit (s := S3072x512) ![128 * b.val, 0] S128x512.size (inbL b)).toLoadRect j).trans (congrArg x0 (funext fun a => Fin.ext ?_))
  match a with
  | ⟨0, _⟩ => show 128 * b.val + 1 * (j 0).val = 128 * b.val + (j 0).val; omega
  | ⟨1, _⟩ => show 0 + 1 * (j 1).val = (j 1).val; omega

/-- Stores of `S512x128` blocks side by side, newest first. -/
def colL {e : EltTy} (P : Fin 24 → S512x128.Idx → Elt F e) : List (View.Piece (Elt F) S512x3072 e) :=
  List.ofFn fun b : Fin 24 => ⟨Rect.unit ![0, 128 * (rev b).val] S512x128.size (inbC (rev b)), P (rev b)⟩

/-- Stores of `S128x512` blocks one below the other, newest first. -/
def rowL {e : EltTy} (P : Fin 24 → S128x512.Idx → Elt F e) : List (View.Piece (Elt F) S3072x512 e) :=
  List.ofFn fun b : Fin 24 => ⟨Rect.unit ![128 * (rev b).val, 0] S128x512.size (inbL (rev b)), P (rev b)⟩

/-- Stores of single rows, newest first. -/
def row1L {e : EltTy} (P : Fin 24 → S1x512.Idx → Elt F e) : List (View.Piece (Elt F) S24x512 e) :=
  List.ofFn fun b : Fin 24 => ⟨Rect.unit ![(rev b).val, 0] S1x512.size (inbS (rev b)), P (rev b)⟩

/-- Stores of `S512x128` blocks side by side read back at an index. -/
theorem canon_cols {e : EltTy} (P : Fin 24 → S512x128.Idx → Elt F e) :
    View.canon (colL P)
      = fun y => P ⟨(y 1).val / 128, by have : (y 1).val < 3072 := (y 1).isLt; omega⟩ (ix2 (y 0) ⟨(y 1).val % 128, Nat.mod_lt _ (by decide)⟩) := by
  funext y
  have h1 : (y 1).val < 3072 := (y 1).isLt
  have h0 : (y 0).val < 512 := (y 0).isLt
  refine View.canon_ofFn_unit_eq_of_forall (S := S512x3072) (fun b => ![0, 128 * (rev b).val]) S512x128.size (fun b => inbC (rev b)) (fun b => P (rev b)) y _
    ⟨⟨23 - (y 1).val / 128, by omega⟩, fun a => ?_⟩ fun k x hx => ?_
  · match a with
    | ⟨0, _⟩ => exact ⟨Nat.zero_le _, by show (y 0).val < 0 + 512; omega⟩
    | ⟨1, _⟩ => exact ⟨by show 128 * (23 - (23 - (y 1).val / 128)) ≤ (y 1).val; omega, by show (y 1).val < 128 * (23 - (23 - (y 1).val / 128)) + 128; omega⟩
  · have e0 : (y 0).val = 0 + (x 0).val := hx 0
    have e1 : (y 1).val = 128 * (rev k).val + (x 1).val := hx 1
    have l1 : (x 1).val < 128 := (x 1).isLt
    have hk : (⟨(y 1).val / 128, by omega⟩ : Fin 24) = rev k := Fin.ext (by show (y 1).val / 128 = _; omega)
    rw [hk]
    refine congrArg (P (rev k)) (funext fun a => Fin.ext ?_)
    match a with
    | ⟨0, _⟩ => show (x 0).val = (y 0).val; omega
    | ⟨1, _⟩ => show (x 1).val = (y 1).val % 128; omega

/-- Stores of `S128x512` blocks one below the other read back at an index. -/
theorem canon_rows {e : EltTy} (P : Fin 24 → S128x512.Idx → Elt F e) :
    View.canon (rowL P)
      = fun y => P ⟨(y 0).val / 128, by have : (y 0).val < 3072 := (y 0).isLt; omega⟩ (ix2 ⟨(y 0).val % 128, Nat.mod_lt _ (by decide)⟩ (y 1)) := by
  funext y
  have h1 : (y 1).val < 512 := (y 1).isLt
  have h0 : (y 0).val < 3072 := (y 0).isLt
  refine View.canon_ofFn_unit_eq_of_forall (S := S3072x512) (fun b => ![128 * (rev b).val, 0]) S128x512.size (fun b => inbL (rev b)) (fun b => P (rev b)) y _
    ⟨⟨23 - (y 0).val / 128, by omega⟩, fun a => ?_⟩ fun k x hx => ?_
  · match a with
    | ⟨0, _⟩ => exact ⟨by show 128 * (23 - (23 - (y 0).val / 128)) ≤ (y 0).val; omega, by show (y 0).val < 128 * (23 - (23 - (y 0).val / 128)) + 128; omega⟩
    | ⟨1, _⟩ => exact ⟨Nat.zero_le _, by show (y 1).val < 0 + 512; omega⟩
  · have e0 : (y 0).val = 128 * (rev k).val + (x 0).val := hx 0
    have e1 : (y 1).val = 0 + (x 1).val := hx 1
    have l0 : (x 0).val < 128 := (x 0).isLt
    have hk : (⟨(y 0).val / 128, by omega⟩ : Fin 24) = rev k := Fin.ext (by show (y 0).val / 128 = _; omega)
    rw [hk]
    refine congrArg (P (rev k)) (funext fun a => Fin.ext ?_)
    match a with
    | ⟨0, _⟩ => show (x 0).val = (y 0).val % 128; omega
    | ⟨1, _⟩ => show (x 1).val = (y 1).val; omega

/-- Stores of single rows read back at an index. -/
theorem canon_row1 {e : EltTy} (P : Fin 24 → S1x512.Idx → Elt F e) :
    View.canon (row1L P)
      = fun y => P (y 0) (ix2 0 (y 1)) := by
  funext y
  have h1 : (y 1).val < 512 := (y 1).isLt
  have h0 : (y 0).val < 24 := (y 0).isLt
  refine View.canon_ofFn_unit_eq_of_forall (S := S24x512) (fun b => ![(rev b).val, 0]) S1x512.size (fun b => inbS (rev b)) (fun b => P (rev b)) y _
    ⟨⟨23 - (y 0).val, by omega⟩, fun a => ?_⟩ fun k x hx => ?_
  · match a with
    | ⟨0, _⟩ => exact ⟨by show 23 - (23 - (y 0).val) ≤ (y 0).val; omega, by show (y 0).val < 23 - (23 - (y 0).val) + 1; omega⟩
    | ⟨1, _⟩ => exact ⟨Nat.zero_le _, by show (y 1).val < 0 + 512; omega⟩
  · have e0 : (y 0).val = (rev k).val + (x 0).val := hx 0
    have e1 : (y 1).val = 0 + (x 1).val := hx 1
    have l0 : (x 0).val < 1 := (x 0).isLt
    have hk : y 0 = rev k := Fin.ext (by omega)
    rw [hk]
    refine congrArg (P (rev k)) (funext fun a => Fin.ext ?_)
    match a with
    | ⟨0, _⟩ => show (x 0).val = 0; omega
    | ⟨1, _⟩ => show (x 1).val = (y 1).val; omega

/-! ## What the two bodies leave in their outputs, as functions of the loaded tile -/

/-- The codes of a whole tile. -/
def codesT (φ : FTy) (hφ : φ.bits < FTy.bf16.bits) (rw lo hi : BitVec 32) (X : Vec F S3072x512 .bf16) : FVec F S512x3072 φ :=
  fun y => codesB φ hφ rw lo hi (blk X ⟨(y 1).val / 128, by have : (y 1).val < 3072 := (y 1).isLt; omega⟩)
    (ix2 (y 0) ⟨(y 1).val % 128, Nat.mod_lt _ (by decide)⟩)

/-- The scales of a whole tile, a row per block. -/
def rowsT (rw : BitVec 32) (X : Vec F S3072x512 .bf16) : FVec F S24x512 .f32 :=
  fun y => scaleB rw (blk X (y 0)) (ix2 0 (y 1))

/-- The scales of a whole tile, a row per channel. -/
def scalesT (rw : BitVec 32) (X : Vec F S3072x512 .bf16) : FVec F S512x24 .f32 :=
  fun y => rowsT rw X (ix2 (y 1) (y 0))

/-- Codes times scales of a whole tile, a row per token. -/
def prodT (φ : FTy) (hφ : φ.bits < FTy.bf16.bits) (rw lo hi : BitVec 32) (X : Vec F S3072x512 .bf16) : FVec F S3072x512 .bf16 :=
  fun y => prodB φ hφ rw lo hi (blk X ⟨(y 0).val / 128, by have : (y 0).val < 3072 := (y 0).isLt; omega⟩)
    (ix2 ⟨(y 0).val % 128, Nat.mod_lt _ (by decide)⟩ (y 1))

/-- Codes times scales of a whole tile, a row per channel. -/
def prodTT (φ : FTy) (hφ : φ.bits < FTy.bf16.bits) (rw lo hi : BitVec 32) (X : Vec F S3072x512 .bf16) : FVec F S512x3072 .bf16 :=
  fun y => prodT φ hφ rw lo hi X (ix2 (y 1) (y 0))

/-- The code pieces of the first body. -/
theorem pieces0_1 (c : Dev nD) (i : grid0.Coords) (arg1 : Memref sig .tc .vmem S3072x512 .bf16) (harg1 : arg1.IsWhole) (arg2 : Memref sig .tc .vmem S512x3072 .fp8e4m3) (harg2 : arg2.IsWhole) (arg3 : Memref sig .tc .vmem S512x24 .f32) (harg3 : arg3.IsWhole) (arg4 : Memref sig .tc .vmem S512x3072 .bf16) (harg4 : arg4.IsWhole) (arg5 : Memref sig .tc .vmem S24x512 .f32) (harg5 : arg5.IsWhole)
  (x0 : Vec F S3072x512 .bf16) :
    (kernelRun0_A c i arg1 harg1 arg2 harg2 arg3 harg3 arg4 harg4 arg5 harg5 x0).1
      = colL fun b => codesB .fp8e4m3 bitsLt_fp8e4m3_bf16 0x3B124925#32 0xC3E00000#32 0x43E00000#32 (ldB arg1 harg1 x0 b) := by
  sl_kernel_rfl

/-- The product pieces of the first body. -/
theorem pieces0_3 (c : Dev nD) (i : grid0.Coords) (arg1 : Memref sig .tc .vmem S3072x512 .bf16) (harg1 : arg1.IsWhole) (arg2 : Memref sig .tc .vmem S512x3072 .fp8e4m3) (harg2 : arg2.IsWhole) (arg3 : Memref sig .tc .vmem S512x24 .f32) (harg3 : arg3.IsWhole) (arg4 : Memref sig .tc .vmem S512x3072 .bf16) (harg4 : arg4.IsWhole) (arg5 : Memref sig .tc .vmem S24x512 .f32) (harg5 : arg5.IsWhole)
  (x0 : Vec F S3072x512 .bf16) :
    (kernelRun0_A c i arg1 harg1 arg2 harg2 arg3 harg3 arg4 harg4 arg5 harg5 x0).2.2.1
      = colL fun b => transpose S512x128 [1, 0] (prodB .fp8e4m3 bitsLt_fp8e4m3_bf16 0x3B124925#32 0xC3E00000#32 0x43E00000#32 (ldB arg1 harg1 x0 b)) transposes_S128x512_p1_0_S512x128 := by
  sl_kernel_rfl

/-- The scale rows of the first body. -/
theorem pieces0_s (c : Dev nD) (i : grid0.Coords) (arg1 : Memref sig .tc .vmem S3072x512 .bf16) (harg1 : arg1.IsWhole) (arg2 : Memref sig .tc .vmem S512x3072 .fp8e4m3) (harg2 : arg2.IsWhole) (arg3 : Memref sig .tc .vmem S512x24 .f32) (harg3 : arg3.IsWhole) (arg4 : Memref sig .tc .vmem S512x3072 .bf16) (harg4 : arg4.IsWhole) (arg5 : Memref sig .tc .vmem S24x512 .f32) (harg5 : arg5.IsWhole)
  (x0 : Vec F S3072x512 .bf16) :
    kernelRun0_A.sl.HS0_24 c arg1 harg1 x0
      = row1L fun b => shapeCast S1x512 (scaleB 0x3B124925#32 (ldB arg1 harg1 x0 b)) shapeCasts_S1x512_S1x512 := by
  sl_kernel_rfl

/-- The code pieces of the second body. -/
theorem pieces1_3 (c : Dev nD) (i : grid1.Coords) (arg1 : Memref sig .tc .vmem S3072x512 .bf16) (harg1 : arg1.IsWhole) (arg2 : Memref sig .tc .vmem S3584x3072 .bf16) (harg2 : arg2.IsWhole) (arg3 : Memref sig .tc .vmem S3584x512 .f32) (harg3 : arg3.IsWhole) (arg4 : Memref sig .tc .vmem S512x3072 .fp8e5m2) (harg4 : arg4.IsWhole) (arg5 : Memref sig .tc .vmem S512x24 .f32) (harg5 : arg5.IsWhole) (arg6 : Memref sig .tc .vmem S3072x512 .bf16) (harg6 : arg6.IsWhole) (arg7 : Memref sig .tc .vmem S24x512 .f32) (harg7 : arg7.IsWhole)
  (x0 : Vec F S3072x512 .bf16) (x1 : Vec F S3584x3072 .bf16) :
    (kernelRun1_A c i arg1 harg1 arg2 harg2 arg3 harg3 arg4 harg4 arg5 harg5 arg6 harg6 arg7 harg7 x0 x1).2.1
      = colL fun b => codesB .fp8e5m2 bitsLt_fp8e5m2_bf16 0x37924925#32 0xC7600000#32 0x47600000#32 (ldB arg1 harg1 x0 b) := by
  sl_kernel_rfl

/-- The product rows of the second body. -/
theorem pieces1_p (c : Dev nD) (i : grid1.Coords) (arg1 : Memref sig .tc .vmem S3072x512 .bf16) (harg1 : arg1.IsWhole) (arg2 : Memref sig .tc .vmem S3584x3072 .bf16) (harg2 : arg2.IsWhole) (arg3 : Memref sig .tc .vmem S3584x512 .f32) (harg3 : arg3.IsWhole) (arg4 : Memref sig .tc .vmem S512x3072 .fp8e5m2) (harg4 : arg4.IsWhole) (arg5 : Memref sig .tc .vmem S512x24 .f32) (harg5 : arg5.IsWhole) (arg6 : Memref sig .tc .vmem S3072x512 .bf16) (harg6 : arg6.IsWhole) (arg7 : Memref sig .tc .vmem S24x512 .f32) (harg7 : arg7.IsWhole)
  (x0 : Vec F S3072x512 .bf16) (x1 : Vec F S3584x3072 .bf16) :
    kernelRun1_A.sl.HS0_24 c arg1 harg1 x0
      = rowL fun b => shapeCast S128x512 (prodB .fp8e5m2 bitsLt_fp8e5m2_bf16 0x37924925#32 0xC7600000#32 0x47600000#32 (ldB arg1 harg1 x0 b)) shapeCasts_S128x512_S128x512 := by
  sl_kernel_rfl

/-- The scale rows of the second body. -/
theorem pieces1_s (c : Dev nD) (i : grid1.Coords) (arg1 : Memref sig .tc .vmem S3072x512 .bf16) (harg1 : arg1.IsWhole) (arg2 : Memref sig .tc .vmem S3584x3072 .bf16) (harg2 : arg2.IsWhole) (arg3 : Memref sig .tc .vmem S3584x512 .f32) (harg3 : arg3.IsWhole) (arg4 : Memref sig .tc .vmem S512x3072 .fp8e5m2) (harg4 : arg4.IsWhole) (arg5 : Memref sig .tc .vmem S512x24 .f32) (harg5 : arg5.IsWhole) (arg6 : Memref sig .tc .vmem S3072x512 .bf16) (harg6 : arg6.IsWhole) (arg7 : Memref sig .tc .vmem S24x512 .f32) (harg7 : arg7.IsWhole)
  (x0 : Vec F S3072x512 .bf16) (x1 : Vec F S3584x3072 .bf16) :
    kernelRun1_A.sl.HS1_24 c arg1 harg1 x0
      = row1L fun b => shapeCast S1x512 (scaleB 0x37924925#32 (ldB arg1 harg1 x0 b)) shapeCasts_S1x512_S1x512 := by
  sl_kernel_rfl

/-- The first body's codes are the tile's. -/
theorem out0_1 (c : Dev nD) (i : grid0.Coords) (arg1 : Memref sig .tc .vmem S3072x512 .bf16) (harg1 : arg1.IsWhole) (arg2 : Memref sig .tc .vmem S512x3072 .fp8e4m3) (harg2 : arg2.IsWhole) (arg3 : Memref sig .tc .vmem S512x24 .f32) (harg3 : arg3.IsWhole) (arg4 : Memref sig .tc .vmem S512x3072 .bf16) (harg4 : arg4.IsWhole) (arg5 : Memref sig .tc .vmem S24x512 .f32) (harg5 : arg5.IsWhole)
  (x0 : Vec F S3072x512 .bf16) :
    out0_A_1 c i arg1 harg1 arg2 harg2 arg3 harg3 arg4 harg4 arg5 harg5 x0 = codesT .fp8e4m3 bitsLt_fp8e4m3_bf16 0x3B124925#32 0xC3E00000#32 0x43E00000#32 x0 := by
  unfold out0_A_1
  rw [View.read_writes_junk_eq_canon, pieces0_1, canon_cols]
  simp only [ldB_eq]
  rfl

/-- The first body's products are the tile's, transposed. -/
theorem out0_3 (c : Dev nD) (i : grid0.Coords) (arg1 : Memref sig .tc .vmem S3072x512 .bf16) (harg1 : arg1.IsWhole) (arg2 : Memref sig .tc .vmem S512x3072 .fp8e4m3) (harg2 : arg2.IsWhole) (arg3 : Memref sig .tc .vmem S512x24 .f32) (harg3 : arg3.IsWhole) (arg4 : Memref sig .tc .vmem S512x3072 .bf16) (harg4 : arg4.IsWhole) (arg5 : Memref sig .tc .vmem S24x512 .f32) (harg5 : arg5.IsWhole)
  (x0 : Vec F S3072x512 .bf16) :
    out0_A_3 c i arg1 harg1 arg2 harg2 arg3 harg3 arg4 harg4 arg5 harg5 x0 = prodTT .fp8e4m3 bitsLt_fp8e4m3_bf16 0x3B124925#32 0xC3E00000#32 0x43E00000#32 x0 := by
  unfold out0_A_3
  rw [View.read_writes_junk_eq_canon, pieces0_3, canon_cols]
  simp only [ldB_eq]
  funext y
  pointwise [prodTT, prodT]

/-- Single-row stores loaded back whole. -/
theorem load_rows {e : EltTy} (P : Fin 24 → S1x512.Idx → Elt F e) :
    (fun j => View.canon (row1L P) ((Rect.unit (s := S24x512) ![0, 0] ![24, 512] inb_S24x512_S24x512_0_0).toLoadRect.idx j))
      = fun y : S24x512.Idx => P (y 0) (ix2 0 (y 1)) := by
  rw [canon_row1]
  have hj : ∀ j : S24x512.Idx, (Rect.unit (s := S24x512) ![0, 0] ![24, 512] inb_S24x512_S24x512_0_0).toLoadRect.idx j = j := fun j =>
    funext fun a => Fin.ext (by
      match a with
      | ⟨0, _⟩ => show 0 + 1 * (j 0).val = (j 0).val; omega
      | ⟨1, _⟩ => show 0 + 1 * (j 1).val = (j 1).val; omega)
  funext j
  exact congrArg (fun y : S24x512.Idx => P (y 0) (ix2 0 (y 1))) (hj j)

theorem rows_eq (rw : BitVec 32) (arg1 : Memref sig .tc .vmem S3072x512 .bf16) (harg1 : arg1.IsWhole) (x0 : Vec F S3072x512 .bf16) :
    (fun y : S24x512.Idx => shapeCast S1x512 (scaleB rw (ldB arg1 harg1 x0 (y 0))) shapeCasts_S1x512_S1x512 (ix2 0 (y 1))) = rowsT rw x0 := by
  funext y
  refine (congrArg (fun v => shapeCast S1x512 (scaleB rw v) shapeCasts_S1x512_S1x512 (ix2 0 (y 1))) (ldB_eq arg1 harg1 x0 (y 0))).trans ?_
  pointwise [rowsT]

/-- The first body's scales are the tile's. -/
theorem out0_2 (c : Dev nD) (i : grid0.Coords) (arg1 : Memref sig .tc .vmem S3072x512 .bf16) (harg1 : arg1.IsWhole) (arg2 : Memref sig .tc .vmem S512x3072 .fp8e4m3) (harg2 : arg2.IsWhole) (arg3 : Memref sig .tc .vmem S512x24 .f32) (harg3 : arg3.IsWhole) (arg4 : Memref sig .tc .vmem S512x3072 .bf16) (harg4 : arg4.IsWhole) (arg5 : Memref sig .tc .vmem S24x512 .f32) (harg5 : arg5.IsWhole)
  (x0 : Vec F S3072x512 .bf16) :
    out0_A_2 c i arg1 harg1 arg2 harg2 arg3 harg3 arg4 harg4 arg5 harg5 x0 = scalesT 0x3B124925#32 x0 := by
  unfold out0_A_2
  rw [View.read_writes_junk_eq_canon, show (kernelRun0_A c i arg1 harg1 arg2 harg2 arg3 harg3 arg4 harg4 arg5 harg5 x0).2.1 = [⟨Rect.unit ![0, 0] S512x24.size inb_S512x24_S512x24_0_0, k0_pay3 (kernelRun0_A.sl.v1464 c arg1 harg1 arg5 x0)⟩] from rfl,
    View.canon_unit_zero (by funext a; fin_cases a <;> rfl), kernelRun0_A.sl.v1464, View.readCov_eq_canon', pieces0_s c i arg1 harg1 arg2 harg2 arg3 harg3 arg4 harg4 arg5 harg5 x0, load_rows, rows_eq]
  funext y
  pointwise [k0_pay3, scalesT]

/-- The second body's codes are the tile's. -/
theorem out1_3 (c : Dev nD) (i : grid1.Coords) (arg1 : Memref sig .tc .vmem S3072x512 .bf16) (harg1 : arg1.IsWhole) (arg2 : Memref sig .tc .vmem S3584x3072 .bf16) (harg2 : arg2.IsWhole) (arg3 : Memref sig .tc .vmem S3584x512 .f32) (harg3 : arg3.IsWhole) (arg4 : Memref sig .tc .vmem S512x3072 .fp8e5m2) (harg4 : arg4.IsWhole) (arg5 : Memref sig .tc .vmem S512x24 .f32) (harg5 : arg5.IsWhole) (arg6 : Memref sig .tc .vmem S3072x512 .bf16) (harg6 : arg6.IsWhole) (arg7 : Memref sig .tc .vmem S24x512 .f32) (harg7 : arg7.IsWhole)
  (x0 : Vec F S3072x512 .bf16) (x1 : Vec F S3584x3072 .bf16) :
    out1_A_3 c i arg1 harg1 arg2 harg2 arg3 harg3 arg4 harg4 arg5 harg5 arg6 harg6 arg7 harg7 x0 x1 = codesT .fp8e5m2 bitsLt_fp8e5m2_bf16 0x37924925#32 0xC7600000#32 0x47600000#32 x0 := by
  unfold out1_A_3
  rw [View.read_writes_junk_eq_canon, pieces1_3, canon_cols]
  simp only [ldB_eq]
  rfl

/-- The second body's scales are the tile's. -/
theorem out1_4 (c : Dev nD) (i : grid1.Coords) (arg1 : Memref sig .tc .vmem S3072x512 .bf16) (harg1 : arg1.IsWhole) (arg2 : Memref sig .tc .vmem S3584x3072 .bf16) (harg2 : arg2.IsWhole) (arg3 : Memref sig .tc .vmem S3584x512 .f32) (harg3 : arg3.IsWhole) (arg4 : Memref sig .tc .vmem S512x3072 .fp8e5m2) (harg4 : arg4.IsWhole) (arg5 : Memref sig .tc .vmem S512x24 .f32) (harg5 : arg5.IsWhole) (arg6 : Memref sig .tc .vmem S3072x512 .bf16) (harg6 : arg6.IsWhole) (arg7 : Memref sig .tc .vmem S24x512 .f32) (harg7 : arg7.IsWhole)
  (x0 : Vec F S3072x512 .bf16) (x1 : Vec F S3584x3072 .bf16) :
    out1_A_4 c i arg1 harg1 arg2 harg2 arg3 harg3 arg4 harg4 arg5 harg5 arg6 harg6 arg7 harg7 x0 x1 = scalesT 0x37924925#32 x0 := by
  unfold out1_A_4
  rw [View.read_writes_junk_eq_canon, show (kernelRun1_A c i arg1 harg1 arg2 harg2 arg3 harg3 arg4 harg4 arg5 harg5 arg6 harg6 arg7 harg7 x0 x1).2.2.1 = [⟨Rect.unit ![0, 0] S512x24.size inb_S512x24_S512x24_0_0, k1_pay2 (kernelRun1_A.sl.v1488 c arg1 harg1 arg7 x0)⟩] from rfl,
    View.canon_unit_zero (by funext a; fin_cases a <;> rfl), kernelRun1_A.sl.v1488, View.readCov_eq_canon', pieces1_s c i arg1 harg1 arg2 harg2 arg3 harg3 arg4 harg4 arg5 harg5 arg6 harg6 arg7 harg7 x0 x1, load_rows, rows_eq]
  funext y
  pointwise [k1_pay2, scalesT]

/-- The second body's weight gradient: the first body's products against the tile's. -/
theorem out1_2 (c : Dev nD) (i : grid1.Coords) (arg1 : Memref sig .tc .vmem S3072x512 .bf16) (harg1 : arg1.IsWhole) (arg2 : Memref sig .tc .vmem S3584x3072 .bf16) (harg2 : arg2.IsWhole) (arg3 : Memref sig .tc .vmem S3584x512 .f32) (harg3 : arg3.IsWhole) (arg4 : Memref sig .tc .vmem S512x3072 .fp8e5m2) (harg4 : arg4.IsWhole) (arg5 : Memref sig .tc .vmem S512x24 .f32) (harg5 : arg5.IsWhole) (arg6 : Memref sig .tc .vmem S3072x512 .bf16) (harg6 : arg6.IsWhole) (arg7 : Memref sig .tc .vmem S24x512 .f32) (harg7 : arg7.IsWhole)
  (x0 : Vec F S3072x512 .bf16) (x1 : Vec F S3584x3072 .bf16) :
    out1_A_2 c i arg1 harg1 arg2 harg2 arg3 harg3 arg4 harg4 arg5 harg5 arg6 harg6 arg7 harg7 x0 x1
      = matmul dot_S3584x3072_S3072x512_S3584x512_1_0_0_1_n_n none x1 (prodT .fp8e5m2 bitsLt_fp8e5m2_bf16 0x37924925#32 0xC7600000#32 0x47600000#32 x0) (constant S3584x512 .f32 0x00000000#32) := by
  unfold out1_A_2
  rw [View.read_writes_junk_eq_canon, show (kernelRun1_A c i arg1 harg1 arg2 harg2 arg3 harg3 arg4 harg4 arg5 harg5 arg6 harg6 arg7 harg7 x0 x1).1 = [⟨Rect.unit ![0, 0] S3584x512.size inb_S3584x512_S3584x512_0_0, k1_pay3 (View.readAt (Elt F) arg2.view (Rect.unit (s := S3584x3072) ![0, 0] ![3584, 3072] inb_S3584x3072_S3584x3072_0_0).toLoadRect (harg2.unread x1)) (kernelRun1_A.sl.v1493 c arg1 harg1 arg6 x0)⟩] from rfl,
    View.canon_unit_zero (by funext a; fin_cases a <;> rfl), kernelRun1_A.sl.v1493, View.readCov_eq_canon', pieces1_p c i arg1 harg1 arg2 harg2 arg3 harg3 arg4 harg4 arg5 harg5 arg6 harg6 arg7 harg7 x0 x1, canon_rows]
  simp only [ldB_eq]
  have e1 : shapeCast S3584x3072 (View.readAt (Elt F) arg2.view (Rect.unit (s := S3584x3072) ![0, 0] ![3584, 3072] inb_S3584x3072_S3584x3072_0_0).toLoadRect (harg2.unread x1)) shapeCasts_S3584x3072_S3584x3072 = x1 := by
    funext y
    pointwise
    refine (Memref.IsWhole.readAt_unread harg2 x1 _ _).trans (congrArg x1 (funext fun a => Fin.ext ?_))
    match a with
    | ⟨0, _⟩ => show 0 + 1 * (y 0).val = (y 0).val; omega
    | ⟨1, _⟩ => show 0 + 1 * (y 1).val = (y 1).val; omega
  unfold k1_pay3
  dsimp only
  rw [e1]
  congr 1
  funext y
  pointwise [prodT]

end Cert.Proof.Blocks
-- ==== Proof.KernelRun.lean ====
/- What a run of the kernel's program leaves, at any float model: every unscoped buffer at the last boundary's contents. -/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends, with every unscoped buffer at the contents `W3` of the last boundary. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Cert.Proof.KernelRun
-- ==== Proof.KernelVal.lean ====
/- The five result arrays of the kernel's program as functions of its two arguments, at any float model. -/
module

public import proofs.«01_k».proof.Proof.Blocks
public import proofs.«01_k».proof.Proof.KernelRun
public import Idealize.ShloMosaic.Lib.Pipeline.ValueKit

@[expose] public section

set_option maxRecDepth 16384

noncomputable section

namespace Cert.Proof.KernelVal

open Cert.KernelIdeal Cert.KernelIdeal.Gen Cert.Proof.Blocks Idealize.ShloMosaic Idealize.ShloMosaic.TcCoe Idealize.SL.Sem

variable {F : FTy → Type} [FloatOps F]

/-- Channels `512 t` to `512 t + 511` of the activations. -/
def tile7 {α : Type} (A : S3072x3584.Idx → α) (t : Fin 7) : S3072x512.Idx → α :=
  fun j => A (ix2 (j 0) ⟨512 * t.val + (j 1).val, by have : (j 1).val < 512 := (j 1).isLt; omega⟩)

/-- Channels `512 t` to `512 t + 511` of the gradients. -/
def tile14 {α : Type} (A : S3072x7168.Idx → α) (t : Fin 14) : S3072x512.Idx → α :=
  fun j => A (ix2 (j 0) ⟨512 * t.val + (j 1).val, by have : (j 1).val < 512 := (j 1).isLt; omega⟩)

/-- The tile a channel of the activations lies in. -/
abbrev tl7 (a : Fin 3584) : Fin 7 := ⟨a.val / 512, by omega⟩
/-- The tile a channel of the gradients lies in. -/
abbrev tl14 (a : Fin 7168) : Fin 14 := ⟨a.val / 512, by omega⟩
/-- A channel's place in its tile. -/
abbrev lc {n : ℕ} (a : Fin n) : Fin 512 := ⟨a.val % 512, Nat.mod_lt _ (by decide)⟩

/-- The activations' codes. -/
def xCodes (A : Vec F S3072x3584 .bf16) : FVec F S3584x3072 .fp8e4m3 := fun y =>
  codesT .fp8e4m3 bitsLt_fp8e4m3_bf16 0x3B124925#32 0xC3E00000#32 0x43E00000#32 (tile7 A (tl7 (y 0))) (ix2 (lc (y 0)) (y 1))
/-- The activations' scales. -/
def xScales (A : Vec F S3072x3584 .bf16) : FVec F S3584x24 .f32 := fun y =>
  scalesT 0x3B124925#32 (tile7 A (tl7 (y 0))) (ix2 (lc (y 0)) (y 1))
/-- The activations' codes times scales, a row per channel. -/
def xProds (A : Vec F S3072x3584 .bf16) : FVec F S3584x3072 .bf16 := fun y =>
  prodTT .fp8e4m3 bitsLt_fp8e4m3_bf16 0x3B124925#32 0xC3E00000#32 0x43E00000#32 (tile7 A (tl7 (y 0))) (ix2 (lc (y 0)) (y 1))
/-- The gradients' codes. -/
def dyCodes (A : Vec F S3072x7168 .bf16) : FVec F S7168x3072 .fp8e5m2 := fun y =>
  codesT .fp8e5m2 bitsLt_fp8e5m2_bf16 0x37924925#32 0xC7600000#32 0x47600000#32 (tile14 A (tl14 (y 0))) (ix2 (lc (y 0)) (y 1))
/-- The gradients' scales. -/
def dyScales (A : Vec F S3072x7168 .bf16) : FVec F S7168x24 .f32 := fun y =>
  scalesT 0x37924925#32 (tile14 A (tl14 (y 0))) (ix2 (lc (y 0)) (y 1))
/-- The weight gradient, a column tile at a time. -/
def dW (B : Vec F S3072x3584 .bf16) (A : Vec F S3072x7168 .bf16) : FVec F S3584x7168 .f32 := fun y =>
  matmul dot_S3584x3072_S3072x512_S3584x512_1_0_0_1_n_n none (xProds B)
    (prodT .fp8e5m2 bitsLt_fp8e5m2_bf16 0x37924925#32 0xC7600000#32 0x47600000#32 (tile14 A (tl14 (y 1))))
    (constant S3584x512 .f32 0x00000000#32) (ix2 (y 0) (lc (y 1)))

section Regions
variable (V : (c : Dev nD) → (b : Ref sig .tc) → Buf (Elt F) ((c : Thread nD τ).loc b))

theorem ix0_0 : ∀ t : Fin cfg0.N, win0_0.index t = ![0, t.val] := (by decide +kernel : ∀ t : Fin grid0.N, _)
theorem ix0_1 : ∀ t : Fin cfg0.N, win0_1.index t = ![t.val, 0] := (by decide +kernel : ∀ t : Fin grid0.N, _)
theorem ix0_2 : ∀ t : Fin cfg0.N, win0_2.index t = ![t.val, 0] := (by decide +kernel : ∀ t : Fin grid0.N, _)
theorem ix0_3 : ∀ t : Fin cfg0.N, win0_3.index t = ![t.val, 0] := (by decide +kernel : ∀ t : Fin grid0.N, _)
theorem ix1_0 : ∀ t : Fin cfg1.N, win1_0.index t = ![0, t.val] := (by decide +kernel : ∀ t : Fin grid1.N, _)
theorem ix1_1 : ∀ t : Fin cfg1.N, win1_1.index t = ![0, 0] := (by decide +kernel : ∀ t : Fin grid1.N, _)
theorem ix1_2 : ∀ t : Fin cfg1.N, win1_2.index t = ![0, t.val] := (by decide +kernel : ∀ t : Fin grid1.N, _)
theorem ix1_3 : ∀ t : Fin cfg1.N, win1_3.index t = ![t.val, 0] := (by decide +kernel : ∀ t : Fin grid1.N, _)
theorem ix1_4 : ∀ t : Fin cfg1.N, win1_4.index t = ![t.val, 0] := (by decide +kernel : ∀ t : Fin grid1.N, _)

theorem iblk0_eq (c : Dev nD) (t : Fin cfg0.N) : iblk0 V c 0 t = tile7 (V c main_v0) t := by
  blk_ext! [iblk0, tile7, ix0_0 t]

theorem iblk1_eq (c : Dev nD) (t : Fin cfg1.N) : iblk1 V c 0 t = tile14 (V c main_v1) t := by
  blk_ext! [iblk1, tile14, ix1_0 t]

theorem iblk1_whole (c : Dev nD) (t : Fin cfg1.N) : iblk1 V c 1 t = V c main_v2_2 := by
  blk_ext! [iblk1, ix1_1 t]

omit [FloatOps F] in
/-- A place of the block at point `t`, in the array: the tile and the place in it. -/
theorem place7 {n : ℕ} (t : Fin 7) (y : (⟨2, ![512, n]⟩ : Shape).Idx) (z : (⟨2, ![3584, n]⟩ : Shape).Idx)
    (h0 : (z 0).val = t.val * 512 + (y 0).val) (h1 : (z 1).val = (y 1).val) : tl7 (z 0) = t ∧ (ix2 (lc (z 0)) (z 1) : (⟨2, ![512, n]⟩ : Shape).Idx) = y := by
  have hy : (y 0).val < 512 := (y 0).isLt
  refine ⟨Fin.ext (by show (z 0).val / 512 = t.val; omega), funext fun a => Fin.ext ?_⟩
  match a with
  | ⟨0, _⟩ => show (z 0).val % 512 = (y 0).val; omega
  | ⟨1, _⟩ => exact h1

omit [FloatOps F] in
/-- The same over the gradients' channels. -/
theorem place14 {n : ℕ} (t : Fin 14) (y : (⟨2, ![512, n]⟩ : Shape).Idx) (z : (⟨2, ![7168, n]⟩ : Shape).Idx)
    (h0 : (z 0).val = t.val * 512 + (y 0).val) (h1 : (z 1).val = (y 1).val) : tl14 (z 0) = t ∧ (ix2 (lc (z 0)) (z 1) : (⟨2, ![512, n]⟩ : Shape).Idx) = y := by
  have hy : (y 0).val < 512 := (y 0).isLt
  refine ⟨Fin.ext (by show (z 0).val / 512 = t.val; omega), funext fun a => Fin.ext ?_⟩
  match a with
  | ⟨0, _⟩ => show (z 0).val % 512 = (y 0).val; omega
  | ⟨1, _⟩ => exact h1

/-- The first call leaves the codes of the activations. -/
theorem final0_1 (c : Dev nD) : (dat0 V c).arrAt 1 cfg0.N = xCodes (V c main_v0) := by
  refine (dat0 V c).arrAt_eq_of_covers 1 _ (by decide +kernel) fun t hf y => ?_
  blk_simp
  rw [after0_1]
  unfold outsAt0
  dsimp only
  rw [out0_1, iblk0_eq]
  obtain ⟨e0, e1⟩ := place7 t y ((win0_1.blk t).view.emb y) (by blk_simp [ix0_1 t]) (by blk_simp [ix0_1 t])
  unfold xCodes
  rw [e0, e1]

/-- The first call leaves the scales of the activations. -/
theorem final0_2 (c : Dev nD) : (dat0 V c).arrAt 2 cfg0.N = xScales (V c main_v0) := by
  refine (dat0 V c).arrAt_eq_of_covers 2 _ (by decide +kernel) fun t hf y => ?_
  blk_simp
  rw [after0_2]
  unfold outsAt0
  dsimp only
  rw [out0_2, iblk0_eq]
  obtain ⟨e0, e1⟩ := place7 t y ((win0_2.blk t).view.emb y) (by blk_simp [ix0_2 t]) (by blk_simp [ix0_2 t])
  unfold xScales
  rw [e0, e1]

/-- The first call leaves the activations' codes times scales. -/
theorem final0_3 (c : Dev nD) : (dat0 V c).arrAt 3 cfg0.N = xProds (V c main_v0) := by
  refine (dat0 V c).arrAt_eq_of_covers 3 _ (by decide +kernel) fun t hf y => ?_
  blk_simp
  rw [after0_3]
  unfold outsAt0
  dsimp only
  rw [out0_3, iblk0_eq]
  obtain ⟨e0, e1⟩ := place7 t y ((win0_3.blk t).view.emb y) (by blk_simp [ix0_3 t]) (by blk_simp [ix0_3 t])
  unfold xProds
  rw [e0, e1]

/-- The second call leaves the codes of the gradients. -/
theorem final1_3 (c : Dev nD) : (dat1 V c).arrAt 3 cfg1.N = dyCodes (V c main_v1) := by
  refine (dat1 V c).arrAt_eq_of_covers 3 _ (by decide +kernel) fun t hf y => ?_
  blk_simp
  rw [after1_3]
  unfold outsAt1
  dsimp only
  rw [out1_3, iblk1_eq]
  obtain ⟨e0, e1⟩ := place14 t y ((win1_3.blk t).view.emb y) (by blk_simp [ix1_3 t]) (by blk_simp [ix1_3 t])
  unfold dyCodes
  rw [e0, e1]

/-- The second call leaves the scales of the gradients. -/
theorem final1_4 (c : Dev nD) : (dat1 V c).arrAt 4 cfg1.N = dyScales (V c main_v1) := by
  refine (dat1 V c).arrAt_eq_of_covers 4 _ (by decide +kernel) fun t hf y => ?_
  blk_simp
  rw [after1_4]
  unfold outsAt1
  dsimp only
  rw [out1_4, iblk1_eq]
  obtain ⟨e0, e1⟩ := place14 t y ((win1_4.blk t).view.emb y) (by blk_simp [ix1_4 t]) (by blk_simp [ix1_4 t])
  unfold dyScales
  rw [e0, e1]

/-- The second call leaves the weight gradient, of what it finds in the first call's products. -/
theorem final1_2 (c : Dev nD) (B : Vec F S3072x3584 .bf16) (hB : V c main_v2_2 = xProds B) :
    (dat1 V c).arrAt 2 cfg1.N = dW B (V c main_v1) := by
  refine (dat1 V c).arrAt_eq_of_covers 2 _ (by decide +kernel) fun t hf y => ?_
  blk_simp
  rw [after1_2]
  unfold outsAt1
  dsimp only
  rw [out1_2, iblk1_eq, iblk1_whole, hB]
  have h0 : (((win1_2.blk t).view.emb y) 0).val = (y 0).val := by blk_simp [ix1_2 t]
  have h1 : (((win1_2.blk t).view.emb y) 1).val = t.val * 512 + (y 1).val := by blk_simp [ix1_2 t]
  generalize ((win1_2.blk t).view.emb y) = z at h0 h1
  have hy : (y 1).val < 512 := (y 1).isLt
  have e0 : tl14 (z 1) = t := Fin.ext (by show (z 1).val / 512 = t.val; omega)
  have e1 : (ix2 (z 0) (lc (z 1)) : S3584x512.Idx) = y := funext fun a => Fin.ext (by
    match a with
    | ⟨0, _⟩ => exact h0
    | ⟨1, _⟩ => show (z 1).val % 512 = (y 1).val; omega)
  unfold dW
  rw [e0, e1]

end Regions

variable (m : (ℓ : Loc nD τ sig) → Buf (Elt F) ℓ) (ρ : Dev nD → PrngReg)

/-- The activations as the calls see them: both batch axes in one. -/
abbrev xFlat (a0 : Vec F S2x1536x3584 .bf16) : Vec F S3072x3584 .bf16 := shapeCast S3072x3584 a0 shapeCasts_S2x1536x3584_S3072x3584
/-- The gradients as the calls see them. -/
abbrev dyFlat (a1 : Vec F S2x1536x7168 .bf16) : Vec F S3072x7168 .bf16 := shapeCast S3072x7168 a1 shapeCasts_S2x1536x7168_S3072x7168

theorem W1_v0 (c : Dev nD) : W1 m ρ c (Proc.devRef .tc main_v0) = xFlat (m ((c : Thread nD τ).loc main_arg0)) := by
  show StableHlo.after hostOps0 (W0 m ρ c) (Proc.devRef .tc main_v0) = _
  after_results
  rfl

theorem W1_v1 (c : Dev nD) : W1 m ρ c (Proc.devRef .tc main_v1) = dyFlat (m ((c : Thread nD τ).loc main_arg1)) := by
  show StableHlo.after hostOps0 (W0 m ρ c) (Proc.devRef .tc main_v1) = _
  after_results
  rfl

theorem V2_v1 (c : Dev nD) : V2 m ρ c main_v1 = dyFlat (m ((c : Thread nD τ).loc main_arg1)) :=
  (W2_of m ρ c main_v1 (by decide)).trans (W1_v1 m ρ c)

theorem V2_v2_2 (c : Dev nD) : V2 m ρ c main_v2_2 = xProds (xFlat (m ((c : Thread nD τ).loc main_arg0))) :=
  (W2_arr m ρ c 3).trans ((final0_3 (V1 m ρ) c).trans (congrArg xProds (W1_v0 m ρ c)))

theorem res_v2_0 (c : Dev nD) : W3 m ρ c (Proc.devRef .tc main_v2_0) = xCodes (xFlat (m ((c : Thread nD τ).loc main_arg0))) :=
  (W3_of m ρ c main_v2_0 (by decide)).trans ((W2_arr m ρ c 1).trans ((final0_1 (V1 m ρ) c).trans (congrArg xCodes (W1_v0 m ρ c))))

theorem res_v2_1 (c : Dev nD) : W3 m ρ c (Proc.devRef .tc main_v2_1) = xScales (xFlat (m ((c : Thread nD τ).loc main_arg0))) :=
  (W3_of m ρ c main_v2_1 (by decide)).trans ((W2_arr m ρ c 2).trans ((final0_2 (V1 m ρ) c).trans (congrArg xScales (W1_v0 m ρ c))))

theorem res_v3_0 (c : Dev nD) : W3 m ρ c (Proc.devRef .tc main_v3_0)
    = dW (xFlat (m ((c : Thread nD τ).loc main_arg0))) (dyFlat (m ((c : Thread nD τ).loc main_arg1))) :=
  (W3_arr m ρ c 2).trans ((final1_2 (V2 m ρ) c _ (V2_v2_2 m ρ c)).trans (congrArg (dW _) (V2_v1 m ρ c)))

theorem res_v3_1 (c : Dev nD) : W3 m ρ c (Proc.devRef .tc main_v3_1) = dyCodes (dyFlat (m ((c : Thread nD τ).loc main_arg1))) :=
  (W3_arr m ρ c 3).trans ((final1_3 (V2 m ρ) c).trans (congrArg dyCodes (V2_v1 m ρ c)))

theorem res_v3_2 (c : Dev nD) : W3 m ρ c (Proc.devRef .tc main_v3_2) = dyScales (dyFlat (m ((c : Thread nD τ).loc main_arg1))) :=
  (W3_arr m ρ c 4).trans ((final1_4 (V2 m ρ) c).trans (congrArg dyScales (V2_v1 m ρ c)))

/-- Every run of the kernel's program ends with its five results at these functions of its two arguments, the arguments unchanged. -/
theorem run : θ_run defs (onTc (τ := τ) (main (F := F))) ⟨m, fun _ => 0, ρ⟩ (fun r => ∀ c : Dev nD,
      r.2.mem ((c.tc : Thread nD τ).loc main_v3_0) = dW (xFlat (m ((c.tc : Thread nD τ).loc main_arg0))) (dyFlat (m ((c.tc : Thread nD τ).loc main_arg1)))
      ∧ r.2.mem ((c.tc : Thread nD τ).loc main_v2_0) = xCodes (xFlat (m ((c.tc : Thread nD τ).loc main_arg0)))
      ∧ r.2.mem ((c.tc : Thread nD τ).loc main_v2_1) = xScales (xFlat (m ((c.tc : Thread nD τ).loc main_arg0)))
      ∧ r.2.mem ((c.tc : Thread nD τ).loc main_v3_1) = dyCodes (dyFlat (m ((c.tc : Thread nD τ).loc main_arg1)))
      ∧ r.2.mem ((c.tc : Thread nD τ).loc main_v3_2) = dyScales (dyFlat (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c =>
    ⟨(h c _ (mem_uc main_v3_0 (by decide))).trans (res_v3_0 m ρ c),
     (h c _ (mem_uc main_v2_0 (by decide))).trans (res_v2_0 m ρ c),
     (h c _ (mem_uc main_v2_1 (by decide))).trans (res_v2_1 m ρ c),
     (h c _ (mem_uc main_v3_1 (by decide))).trans (res_v3_1 m ρ c),
     (h c _ (mem_uc main_v3_2 (by decide))).trans (res_v3_2 m ρ c),
     (h c _ (mem_uc main_arg0 (by decide))).trans (W3_main_arg0 m ρ c),
     (h c _ (mem_uc main_arg1 (by decide))).trans (W3_main_arg1 m ρ c)⟩) (KernelRun.run m ρ)

end Cert.Proof.KernelVal
-- ==== Proof.RefValue.lean ====
/- The run of the reference, read: each of its five result arrays ends at the value its one body stores
   (`k0_payN`, stated in Gen/ReferenceIdeal/Skeleton.lean) of the two argument arrays, which stay as they are.
   One grid point, every window's block its whole array. -/
module

public import proofs.«01_k».proof.Proof.Gen.ReferenceIdeal.Frame
public import Idealize.ShloMosaic.Lib.Pipeline.Value

@[expose] public section

noncomputable section

namespace Cert.Proof.RefValue

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)
/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_3) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_4) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x1536x3584.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 1536 + 1 * (j 1).val = (j 1).val; omega
  | ⟨2, _⟩ => show win0_0.index t (2 : Fin 3) * 3584 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x1536x7168.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 1536 + 1 * (j 1).val = (j 1).val; omega
  | ⟨2, _⟩ => show win0_1.index t (2 : Fin 3) * 7168 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S3584x7168.Idx) : ((cfg0.win 2).blk t).view.emb j = j := by
  obtain ⟨e0, e1⟩ := idx_zero2 t
  funext a; apply Fin.ext
  match a with
  | ⟨0, _⟩ => show win0_2.index t (0 : Fin 2) * 3584 + 1 * (j 0).val = (j 0).val; omega
  | ⟨1, _⟩ => show win0_2.index t (1 : Fin 2) * 7168 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S3584x3072.Idx) : ((cfg0.win 3).blk t).view.emb j = j := by
  obtain ⟨e0, e1⟩ := idx_zero3 t
  funext a; apply Fin.ext
  match a with
  | ⟨0, _⟩ => show win0_3.index t (0 : Fin 2) * 3584 + 1 * (j 0).val = (j 0).val; omega
  | ⟨1, _⟩ => show win0_3.index t (1 : Fin 2) * 3072 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S3584x24.Idx) : ((cfg0.win 4).blk t).view.emb j = j := by
  obtain ⟨e0, e1⟩ := idx_zero4 t
  funext a; apply Fin.ext
  match a with
  | ⟨0, _⟩ => show win0_4.index t (0 : Fin 2) * 3584 + 1 * (j 0).val = (j 0).val; omega
  | ⟨1, _⟩ => show win0_4.index t (1 : Fin 2) * 24 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S7168x3072.Idx) : ((cfg0.win 5).blk t).view.emb j = j := by
  obtain ⟨e0, e1⟩ := idx_zero5 t
  funext a; apply Fin.ext
  match a with
  | ⟨0, _⟩ => show win0_5.index t (0 : Fin 2) * 7168 + 1 * (j 0).val = (j 0).val; omega
  | ⟨1, _⟩ => show win0_5.index t (1 : Fin 2) * 3072 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S7168x24.Idx) : ((cfg0.win 6).blk t).view.emb j = j := by
  obtain ⟨e0, e1⟩ := idx_zero6 t
  funext a; apply Fin.ext
  match a with
  | ⟨0, _⟩ => show win0_6.index t (0 : Fin 2) * 7168 + 1 * (j 0).val = (j 0).val; omega
  | ⟨1, _⟩ => show win0_6.index t (1 : Fin 2) * 24 + 1 * (j 1).val = (j 1).val; omega

/-! ### Output window 2: the array after the run -/

/-- What the window's array ends holding: `out0_2` applied to the argument arrays in place of the input blocks (a value that the
    frame states apart, `kK_payN a…`, keeps its loads inside its own definition). -/
abbrev G2 (a0 : Vec F S2x1536x3584 .bf16) (a1 : Vec F S2x1536x7168 .bf16) : Vec F S3584x7168 .f32 :=
  k0_pay10 (k0_pay11 a0 a1) (k0_pay12 a0 a1) (k0_pay13 a0 a1) (k0_pay14 a0 a1)

/-- The one store through the whole rectangle leaves its payload. -/
theorem out2_eq (a0 : Vec F S2x1536x3584 .bf16) (a1 : Vec F S2x1536x7168 .bf16) : out0_2 (F := F) a0 a1 = G2 a0 a1 := by
  unfold out0_2
  rw [View.canon_unit_zero hz2]

/-- Cutting the point's block out of `X` and reading `X` through the block's view give the same. -/
theorem cut2_eq (t : Fin cfg0.N) (X : Vec F S3584x7168 .f32) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S3584x7168.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S2x1536x3584 .bf16) (a1 : Vec F S2x1536x7168 .bf16) : Vec F S3584x3072 .fp8e4m3 :=
  k0_pay11 a0 a1

/-- The one store through the whole rectangle leaves its payload. -/
theorem out3_eq (a0 : Vec F S2x1536x3584 .bf16) (a1 : Vec F S2x1536x7168 .bf16) : out0_3 (F := F) a0 a1 = G3 a0 a1 := by
  unfold out0_3
  rw [View.canon_unit_zero hz3]

/-- Cutting the point's block out of `X` and reading `X` through the block's view give the same. -/
theorem cut3_eq (t : Fin cfg0.N) (X : Vec F S3584x3072 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S3584x3072.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S2x1536x3584 .bf16) (a1 : Vec F S2x1536x7168 .bf16) : Vec F S3584x24 .f32 :=
  k0_pay12 a0 a1

/-- The one store through the whole rectangle leaves its payload. -/
theorem out4_eq (a0 : Vec F S2x1536x3584 .bf16) (a1 : Vec F S2x1536x7168 .bf16) : out0_4 (F := F) a0 a1 = G4 a0 a1 := by
  unfold out0_4
  rw [View.canon_unit_zero hz4]

/-- Cutting the point's block out of `X` and reading `X` through the block's view give the same. -/
theorem cut4_eq (t : Fin cfg0.N) (X : Vec F S3584x24 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S3584x24.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ### Output window 5: the array after the run -/

/-- What the window's array ends holding: `out0_5` applied to the argument arrays in place of the input blocks (a value that the
    frame states apart, `kK_payN a…`, keeps its loads inside its own definition). -/
abbrev G5 (a0 : Vec F S2x1536x3584 .bf16) (a1 : Vec F S2x1536x7168 .bf16) : Vec F S7168x3072 .fp8e5m2 :=
  k0_pay8 (k0_pay13 a0 a1) (k0_pay14 a0 a1)

/-- The one store through the whole rectangle leaves its payload. -/
theorem out5_eq (a0 : Vec F S2x1536x3584 .bf16) (a1 : Vec F S2x1536x7168 .bf16) : out0_5 (F := F) a0 a1 = G5 a0 a1 := by
  unfold out0_5
  rw [View.canon_unit_zero hz5]

/-- Cutting the point's block out of `X` and reading `X` through the block's view give the same. -/
theorem cut5_eq (t : Fin cfg0.N) (X : Vec F S7168x3072 .fp8e5m2) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1)) := by
  show (cfg0.win 5).cut (grid0.coords t) ((dats m 0 c).after 5 t) = _
  rw [after0_5, out5_eq, iblk0_eq, iblk1_eq]
  exact cut5_eq t _

/-- Every index of the array is in the point's block. -/
theorem covered5 (i : S7168x3072.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) :=
  ((dats m 0 c).arrAt_eq_of_cover 5 (G5 (V m c main_arg0) (V m c main_arg1)) (fun t _ => flushed5_eq m c t) covered5).trans (by rw [V_main_arg0, V_main_arg1])

/-! ### Output window 6: the array after the run -/

/-- What the window's array ends holding: `out0_6` applied to the argument arrays in place of the input blocks (a value that the
    frame states apart, `kK_payN a…`, keeps its loads inside its own definition). -/
abbrev G6 (a0 : Vec F S2x1536x3584 .bf16) (a1 : Vec F S2x1536x7168 .bf16) : Vec F S7168x24 .f32 :=
  k0_pay9 (k0_pay14 a0 a1)

/-- The one store through the whole rectangle leaves its payload. -/
theorem out6_eq (a0 : Vec F S2x1536x3584 .bf16) (a1 : Vec F S2x1536x7168 .bf16) : out0_6 (F := F) a0 a1 = G6 a0 a1 := by
  unfold out0_6
  rw [View.canon_unit_zero hz6]

/-- Cutting the point's block out of `X` and reading `X` through the block's view give the same. -/
theorem cut6_eq (t : Fin cfg0.N) (X : Vec F S7168x24 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1)) := by
  show (cfg0.win 6).cut (grid0.coords t) ((dats m 0 c).after 6 t) = _
  rw [after0_6, out6_eq, iblk0_eq, iblk1_eq]
  exact cut6_eq t _

/-- Every index of the array is in the point's block. -/
theorem covered6 (i : S7168x24.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) :=
  ((dats m 0 c).arrAt_eq_of_cover 6 (G6 (V m c main_arg0) (V m c main_arg1)) (fun t _ => flushed6_eq m c t) covered6).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_v0_3) = G5 (m ((c : Thread nD τ).loc main_arg0)) (m ((c : Thread nD τ).loc main_arg1))
      ∧ r.2.mem ((c : Thread nD τ).loc main_v0_4) = G6 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      (post5 m r h c).trans (final5 m c),
      (post6 m r h c).trans (final6 m c),
      kept_main_arg0 m r h c,
      kept_main_arg1 m r h c⟩)
    (run_main m ρ)

end Cert.Proof.RefValue

end
-- ==== Proof.RefIdeal.lean ====
module
public import proofs.«01_k».proof.Proof.KernelVal
public import proofs.«01_k».proof.Proof.RefValue
@[expose] public section
set_option maxRecDepth 16384
noncomputable section
namespace Cert.Proof.RefIdeal
open Idealize.ShloMosaic Idealize.ShloMosaic.TcCoe Idealize.SL.Sem
open Cert.ReferenceIdeal Cert.ReferenceIdeal.Gen
variable {F : FTy → Type} [FloatOps F]

/-- The reference's exponent of a block whose largest magnitude is `a`: `0` for `a = 0` and for a
    ratio under the smallest normal number, else one more than the rounded down binary logarithm. -/
def expOf (rw : BitVec 32) (a : EReal) : EReal :=
  if a = 0 then 0 else if a * Ideal.ofBits .f32 rw < Ideal.ofBits .f32 8388608#32 then 0
  else Ideal.liftRound Int.floor (Ideal.div (Ideal.log (a * Ideal.ofBits .f32 rw)) (Ideal.log (Ideal.ofBits .f32 1073741824#32))) + 1

/-- `k0_pay2` after its block maxima. -/
def expsX (m : FVec F S24x3584 .f32) : FVec F S24x3584 .f32 :=
  let v7 : FVec F S24x3584 .f32 := mulf m (broadcast S24x3584 (Scalar.ofBits .f32 0x3B124925#32))
  let v12 : FVec F S24x3584 .f32 := floor (divf (log v7) (log (broadcast S24x3584 (Scalar.ofBits .f32 0x40000000#32))))
  select (cmpf .oeq m (broadcast S24x3584 (Scalar.ofBits .f32 0x00000000#32))) (broadcast S24x3584 (Scalar.ofBits .f32 0x00000000#32))
    (select (cmpf .olt v7 (broadcast S24x3584 (Scalar.ofBits .f32 0x00800000#32))) (broadcast S24x3584 (Scalar.ofBits .f32 0x00000000#32))
      (addf v12 (broadcast S24x3584 (Scalar.ofBits .f32 0x3F800000#32))))

/-- `k0_pay7` after its block maxima. -/
def expsD (m : FVec F S24x7168 .f32) : FVec F S24x7168 .f32 :=
  let v7 : FVec F S24x7168 .f32 := mulf m (broadcast S24x7168 (Scalar.ofBits .f32 0x37924925#32))
  let v12 : FVec F S24x7168 .f32 := floor (divf (log v7) (log (broadcast S24x7168 (Scalar.ofBits .f32 0x40000000#32))))
  select (cmpf .oeq m (broadcast S24x7168 (Scalar.ofBits .f32 0x00000000#32))) (broadcast S24x7168 (Scalar.ofBits .f32 0x00000000#32))
    (select (cmpf .olt v7 (broadcast S24x7168 (Scalar.ofBits .f32 0x00800000#32))) (broadcast S24x7168 (Scalar.ofBits .f32 0x00000000#32))
      (addf v12 (broadcast S24x7168 (Scalar.ofBits .f32 0x3F800000#32))))

/-- The block maxima of the magnitudes of `x`. -/
def maxX (X : FVec F S24x128x3584 .f32) : FVec F S24x3584 .f32 :=
  multiReduction .maximumf [1] S24x3584 X 0xFF800000#32 reduces_S24x128x3584_S24x3584 (.inl rfl) rfl

/-- The block maxima of the magnitudes of `dy`. -/
def maxD (X : FVec F S24x128x7168 .f32) : FVec F S24x7168 .f32 :=
  multiReduction .maximumf [1] S24x7168 X 0xFF800000#32 reduces_S24x128x7168_S24x7168 (.inl rfl) rfl

/-- `k0_pay3` over the reshaped tokens and the exponents. -/
def codesX (X : FVec F S24x128x3584 .f32) (e : FVec F S24x3584 .f32) : FVec F S3584x3072 .fp8e4m3 :=
  let v26 : FVec F S24x3584 .f32 := exp2 (subf (broadcast S24x3584 (Scalar.ofBits .f32 0x00000000#32)) e)
  let v28 : FVec F S24x128x3584 .f32 := broadcastTo S24x128x3584 (shapeCast S24x1x3584 v26 shapeCasts_S24x3584_S24x1x3584) broadcasts_S24x1x3584_S24x128x3584
  let v30 : FVec F S3072x3584 .f32 := shapeCast S3072x3584 (mulf X v28) shapeCasts_S24x128x3584_S3072x3584
  let v34 : FVec F S3072x3584 .f32 := minimumf (broadcast S3072x3584 (Scalar.ofBits .f32 0x43E00000#32)) (maximumf (broadcast S3072x3584 (Scalar.ofBits .f32 0xC3E00000#32)) v30)
  transpose S3584x3072 [1, 0] (truncf .fp8e4m3 v34 bitsLt_fp8e4m3_f32) transposes_S3072x3584_p1_0_S3584x3072

/-- `k0_pay8` over the reshaped tokens and the exponents. -/
def codesD (X : FVec F S24x128x7168 .f32) (e : FVec F S24x7168 .f32) : FVec F S7168x3072 .fp8e5m2 :=
  let v26 : FVec F S24x7168 .f32 := exp2 (subf (broadcast S24x7168 (Scalar.ofBits .f32 0x00000000#32)) e)
  let v28 : FVec F S24x128x7168 .f32 := broadcastTo S24x128x7168 (shapeCast S24x1x7168 v26 shapeCasts_S24x7168_S24x1x7168) broadcasts_S24x1x7168_S24x128x7168
  let v30 : FVec F S3072x7168 .f32 := shapeCast S3072x7168 (mulf X v28) shapeCasts_S24x128x7168_S3072x7168
  let v34 : FVec F S3072x7168 .f32 := minimumf (broadcast S3072x7168 (Scalar.ofBits .f32 0x47600000#32)) (maximumf (broadcast S3072x7168 (Scalar.ofBits .f32 0xC7600000#32)) v30)
  transpose S7168x3072 [1, 0] (truncf .fp8e5m2 v34 bitsLt_fp8e5m2_f32) transposes_S3072x7168_p1_0_S7168x3072

/-- `k0_pay4` over the exponents. -/
def scalesX (e : FVec F S24x3584 .f32) : FVec F S3584x24 .f32 :=
  transpose S3584x24 [1, 0] (exp2 e) transposes_S24x3584_p1_0_S3584x24

/-- `k0_pay9` over the exponents. -/
def scalesD (e : FVec F S24x7168 .f32) : FVec F S7168x24 .f32 :=
  transpose S7168x24 [1, 0] (exp2 e) transposes_S24x7168_p1_0_S7168x24

/-- `k0_pay10` over the codes and scales of the two arguments. -/
def prodOf (cx : FVec F S3584x3072 .fp8e4m3) (sx : FVec F S3584x24 .f32) (cd : FVec F S7168x3072 .fp8e5m2) (sd : FVec F S7168x24 .f32) : FVec F S3584x7168 .f32 :=
  let v79 : FVec F S3584x24x128 .bf16 := broadcastTo S3584x24x128 (shapeCast S3584x24x1 (shapeCast S3584x24x1 (truncf .bf16 sx bitsLt_bf16_f32) shapeCasts_S3584x24_S3584x24x1) shapeCasts_S3584x24x1_S3584x24x1) broadcasts_S3584x24x1_S3584x24x128
  let v82 : FVec F S3584x3072 .bf16 := mulf (extf .bf16 cx bitsLt_fp8e4m3_bf16) (shapeCast S3584x3072 v79 shapeCasts_S3584x24x128_S3584x3072)
  let v86 : FVec F S7168x24x128 .bf16 := broadcastTo S7168x24x128 (shapeCast S7168x24x1 (shapeCast S7168x24x1 (truncf .bf16 sd bitsLt_bf16_f32) shapeCasts_S7168x24_S7168x24x1) shapeCasts_S7168x24x1_S7168x24x1) broadcasts_S7168x24x1_S7168x24x128
  let v89 : FVec F S7168x3072 .bf16 := mulf (extf .bf16 cd bitsLt_fp8e5m2_bf16) (shapeCast S7168x3072 v86 shapeCasts_S7168x24x128_S7168x3072)
  matmul dot_S3584x3072_S7168x3072_S3584x7168_1_1_0_0_n_n none v82 v89 (constant S3584x7168 .f32 0x00000000#32)

/-- The printed exponents of `x`. -/
theorem pay2_eq (v0 : Vec F S2x1536x3584 .bf16) : k0_pay2 v0 = expsX (maxX (absf (k0_pay1 v0))) := rfl
/-- The printed codes of `x`. -/
theorem pay3_eq (v0 : Vec F S2x1536x3584 .bf16) : k0_pay3 v0 = codesX (k0_pay1 v0) (k0_pay2 v0) := rfl
/-- The printed scales of `x`. -/
theorem pay4_eq (v0 : Vec F S2x1536x3584 .bf16) : k0_pay4 v0 = scalesX (k0_pay2 v0) := rfl
/-- The printed exponents of `dy`. -/
theorem pay7_eq (v : FVec F S24x128x7168 .f32) : k0_pay7 v = expsD (maxD v) := rfl
/-- The printed codes of `dy`. -/
theorem pay8_eq (v w : FVec F S24x128x7168 .f32) : k0_pay8 v w = codesD v (k0_pay7 w) := rfl
/-- The printed scales of `dy`. -/
theorem pay9_eq (w : FVec F S24x128x7168 .f32) : k0_pay9 w = scalesD (k0_pay7 w) := rfl
/-- The printed product. -/
theorem pay10_eq (v36 : FVec F S3584x3072 .fp8e4m3) (v37 : FVec F S3584x24 .f32) (v41 : FVec F S24x128x7168 .f32) (v42 : FVec F S24x128x7168 .f32) :
    k0_pay10 v36 v37 v41 v42 = prodOf v36 v37 (k0_pay8 v41 v42) (k0_pay9 v42) := rfl

/-- `expsX` at an index. -/
theorem expsX_apply (m : FVec Ideal S24x3584 .f32) (b : Fin 24) (c : Fin 3584) :
    expsX (F := Ideal) m (ix2 b c) = expOf 991054117#32 (m (ix2 b c)) := by
  pointwise [expsX]
  rfl

/-- `expsD` at an index. -/
theorem expsD_apply (m : FVec Ideal S24x7168 .f32) (b : Fin 24) (c : Fin 7168) :
    expsD (F := Ideal) m (ix2 b c) = expOf 932333861#32 (m (ix2 b c)) := by
  pointwise [expsD]
  rfl

/-- `maxX` at an index: the largest of the block's 128 values. -/
theorem maxX_apply (X : FVec Ideal S24x128x3584 .f32) (b : Fin 24) (c : Fin 3584) :
    maxX (F := Ideal) X (ix2 b c) = Finset.fold max (Ideal.ofBits .f32 4286578688#32) (fun k => X (ix3 b k c)) Finset.univ := by
  pointwise [maxX]

/-- `maxD` at an index: the largest of the block's 128 values. -/
theorem maxD_apply (X : FVec Ideal S24x128x7168 .f32) (b : Fin 24) (c : Fin 7168) :
    maxD (F := Ideal) X (ix2 b c) = Finset.fold max (Ideal.ofBits .f32 4286578688#32) (fun k => X (ix3 b k c)) Finset.univ := by
  pointwise [maxD]

/-- `scalesX` at an index. -/
theorem scalesX_apply (e : FVec Ideal S24x3584 .f32) (c : Fin 3584) (b : Fin 24) :
    scalesX (F := Ideal) e (ix2 c b) = FloatOps.exp2 (φ := .f32) (e (ix2 b c)) := by
  pointwise [scalesX]

/-- `scalesD` at an index. -/
theorem scalesD_apply (e : FVec Ideal S24x7168 .f32) (c : Fin 7168) (b : Fin 24) :
    scalesD (F := Ideal) e (ix2 c b) = FloatOps.exp2 (φ := .f32) (e (ix2 b c)) := by
  pointwise [scalesD]

/-- `codesX` at channel `c`, token `t`. -/
theorem codesX_apply (X : FVec Ideal S24x128x3584 .f32) (e : FVec Ideal S24x3584 .f32) (c : Fin 3584) (t : Fin 3072) :
    codesX (F := Ideal) X e (ix2 c t) = min (Ideal.ofBits .f32 1138753536#32) (max (Ideal.ofBits .f32 3286237184#32)
      (X (ix3 ⟨t.1 / 128, by omega⟩ ⟨t.1 % 128, by omega⟩ c) * FloatOps.exp2 (F := Ideal) (φ := .f32) (0 - e (ix2 ⟨t.1 / 128, by omega⟩ c)))) := by
  pointwise [codesX]

/-- `codesD` at channel `c`, token `t`. -/
theorem codesD_apply (X : FVec Ideal S24x128x7168 .f32) (e : FVec Ideal S24x7168 .f32) (c : Fin 7168) (t : Fin 3072) :
    codesD (F := Ideal) X e (ix2 c t) = min (Ideal.ofBits .f32 1197473792#32) (max (Ideal.ofBits .f32 3344957440#32)
      (X (ix3 ⟨t.1 / 128, by omega⟩ ⟨t.1 % 128, by omega⟩ c) * FloatOps.exp2 (F := Ideal) (φ := .f32) (0 - e (ix2 ⟨t.1 / 128, by omega⟩ c)))) := by
  pointwise [codesD]

/-- `prodOf` at an index: the sum over the 3072 tokens of the products of the rescaled codes. -/
theorem prodOf_apply (cx : FVec Ideal S3584x3072 .fp8e4m3) (sx : FVec Ideal S3584x24 .f32) (cd : FVec Ideal S7168x3072 .fp8e5m2) (sd : FVec Ideal S7168x24 .f32) (i : Fin 3584) (j : Fin 7168) :
    prodOf (F := Ideal) cx sx cd sd (ix2 i j) = (∑ k : Fin 3072, (cx (ix2 i k) * sx (ix2 i ⟨k.1 / 128, by omega⟩) * (cd (ix2 j k) * sd (ix2 j ⟨k.1 / 128, by omega⟩))) : EReal) := by
  pointwise [prodOf]

/-- The reshaped tokens of `x`. -/
theorem pay1_apply (x : Vec Ideal S2x1536x3584 .bf16) (b : Fin 24) (k : Fin 128) (c : Fin 3584) :
    k0_pay1 (F := Ideal) x (ix3 b k c) = KernelVal.xFlat (F := Ideal) x (ix2 ⟨128 * b.1 + k.1, by omega⟩ c) := by
  pointwise [k0_pay1, KernelVal.xFlat]
  simp only [Nat.mul_comm b.1 128]

/-- The reshaped tokens of `dy`. -/
theorem pay5_apply (x : Vec Ideal S2x1536x7168 .bf16) (b : Fin 24) (k : Fin 128) (c : Fin 7168) :
    k0_pay5 (F := Ideal) x (ix3 b k c) = KernelVal.dyFlat (F := Ideal) x (ix2 ⟨128 * b.1 + k.1, by omega⟩ c) := by
  pointwise [k0_pay5, KernelVal.dyFlat]
  simp only [Nat.mul_comm b.1 128]

/-- The magnitudes of the reshaped tokens of `dy`. -/
theorem pay6_eq (v : Vec F S2x1536x7168 .bf16) : k0_pay6 v = absf (k0_pay5 v) := rfl

end Cert.Proof.RefIdeal
-- ==== Proof.Quant.lean ====
module
public import proofs.«01_k».proof.Proof.RefIdeal
public import Idealize.ShloMosaic.Lib.WordSum
@[expose] public section
noncomputable section
namespace Cert.Proof.Quant
open Idealize.ShloMosaic
open Cert.Proof.RefIdeal

/-- How many of the words `2^-126 … 2^127, ∞` the ratio `r` is not below. -/
def cnt (r : EReal) : BitVec 32 :=
  Finset.fold IntOp.addi (0#32) (fun x : Fin 256 => Scalar.select (IntOp.andi (IntOp.xori (BitVec.ofBool (decide (r < Ideal.ofBits .f32 (IntOp.shli ArithUnit.vector (BitVec.ofNat 32 x.1) 23#32)))) 1#1) (IntOp.cmpi .sgt (BitVec.ofNat 32 x.1) 0#32)) 1#32 0#32) Finset.univ

/-- The exponent field made from the count. -/
def fld (n : BitVec 32) : BitVec 32 := Scalar.select (IntOp.cmpi .eq n 0#32) 126#32 n

/-- The kernel's scale for a count. -/
def kScale (n : BitVec 32) : EReal := Ideal.ofBits .f32 (IntOp.shli ArithUnit.vector (IntOp.addi (fld n) 1#32) 23#32)

/-- The kernel's inverse scale for a count. -/
def kInv (n : BitVec 32) : EReal := Ideal.ofBits .f32 (IntOp.shli ArithUnit.vector (IntOp.subi 253#32 (fld n)) 23#32)

/-- The word with exponent field `k` and nothing else denotes `2^(k-127)`. -/
theorem pow_word (k : ℕ) (h1 : 1 ≤ k) (h2 : k ≤ 254) :
    Ideal.ofBits .f32 (IntOp.shli ArithUnit.vector (BitVec.ofNat 32 k) 23#32) = (((2 : ℝ) ^ ((k : ℤ) - 127) : ℝ) : EReal) := by
  have hs : IntOp.shli ArithUnit.vector (BitVec.ofNat 32 k) 23#32 = BitVec.ofNat 32 k <<< (23#32) := rfl
  rw [hs]
  have hn : (BitVec.ofNat 32 k <<< (23#32)).toNat = k * 2 ^ 23 := by
    simp [BitVec.toNat_shiftLeft, Nat.shiftLeft_eq]; omega
  generalize BitVec.ofNat 32 k <<< (23#32) = w at hn
  have e1 : (w.extractLsb' 23 8).toNat = k := by
    rw [BitVec.extractLsb'_toNat, hn, Nat.shiftRight_eq_div_pow]; omega
  have e2 : (w.extractLsb' 0 23).toNat = 0 := by
    rw [BitVec.extractLsb'_toNat, hn, Nat.shiftRight_eq_div_pow]; omega
  have e3 : (w.extractLsb' 31 1 == 1#1) = false := by
    have : (w.extractLsb' 31 1).toNat = 0 := by
      rw [BitVec.extractLsb'_toNat, hn, Nat.shiftRight_eq_div_pow]; omega
    have : w.extractLsb' 31 1 = 0#1 := BitVec.eq_of_toNat_eq this
    rw [this]; rfl
  show Ideal.ieee 8 23 w = _
  unfold Ideal.ieee
  simp only [show (8 : ℕ) + 23 = 31 from rfl, e1, e2, e3]
  rw [if_neg (by omega), if_neg (by omega)]
  congr 1
  have : ((2 : ℝ) ^ (23 : ℤ)) = ((2 ^ 23 + 0 : ℕ) : ℝ) := by norm_num
  rw [if_neg (by simp), one_mul, ← this, ← zpow_add₀ (by norm_num)]
  congr 1
  norm_num

/-- The word with exponent field 255 and nothing else denotes infinity. -/
theorem top_word : Ideal.ofBits .f32 (IntOp.shli ArithUnit.vector (BitVec.ofNat 32 255) 23#32) = ⊤ := by
  show Ideal.ofBits .f32 0x7F800000#32 = ⊤
  simp [Ideal.ofBits, Ideal.ieee]

/-- The smallest normal number. -/
theorem min_word : Ideal.ofBits .f32 8388608#32 = (((2 : ℝ) ^ (-126 : ℤ) : ℝ) : EReal) := by
  have := pow_word 1 (by norm_num) (by norm_num)
  rw [show (((1 : ℕ) : ℤ) - 127) = -126 by norm_num] at this
  exact this

/-- One counted word: `1` where the word's index is positive and the ratio reaches it. -/
theorem term_eq (r : EReal) (x : Fin 256) (p : Prop) [Decidable p]
    (hp : p ↔ (0 < x.1 ∧ ¬ r < Ideal.ofBits .f32 (IntOp.shli ArithUnit.vector (BitVec.ofNat 32 x.1) 23#32))) :
    Scalar.select (IntOp.andi (IntOp.xori (BitVec.ofBool (decide (r < Ideal.ofBits .f32 (IntOp.shli ArithUnit.vector (BitVec.ofNat 32 x.1) 23#32)))) 1#1) (IntOp.cmpi .sgt (BitVec.ofNat 32 x.1) 0#32)) 1#32 0#32
      = if p then 1#32 else 0#32 := by
  have hc : IntOp.cmpi .sgt (BitVec.ofNat 32 x.1) 0#32 = BitVec.ofBool (decide (0 < x.1)) := by
    clear hp; revert x; decide
  rw [hc]
  by_cases hx : 0 < x.1 <;> by_cases hr : r < Ideal.ofBits .f32 (IntOp.shli ArithUnit.vector (BitVec.ofNat 32 x.1) 23#32)
  · rw [if_neg (by rw [hp]; tauto)]; simp only [hx, hr, decide_true]; rfl
  · rw [if_pos (by rw [hp]; tauto)]; simp only [hx, hr, decide_true, decide_false]; rfl
  · rw [if_neg (by rw [hp]; tauto)]; simp only [hx, hr, decide_true, decide_false]; rfl
  · rw [if_neg (by rw [hp]; tauto)]; simp only [hx, hr, decide_false]; rfl

/-- An integer fold of sums is the sum. -/
theorem fold_sum {ι : Type} (S : Finset ι) (f : ι → BitVec 32) : Finset.fold IntOp.addi (0#32) f S = ∑ x ∈ S, f x := rfl

/-- Counting the indices `1 … m` in 32-bit words gives `m`. -/
theorem fold_count (m : ℕ) (hm : m ≤ 255) :
    Finset.fold IntOp.addi (0#32) (fun x : Fin 256 => if (0 < x.1 ∧ x.1 ≤ m) then 1#32 else 0#32) Finset.univ = BitVec.ofNat 32 m := by
  rw [fold_sum]
  have ht : ∑ x : Fin 256, (if (0 < x.1 ∧ x.1 ≤ m) then 1#32 else 0#32).toNat = m := by
    have : ∀ x : Fin 256, (if (0 < x.1 ∧ x.1 ≤ m) then 1#32 else 0#32).toNat = if (0 < x.1 ∧ x.1 ≤ m) then 1 else 0 := by
      intro x; split <;> rfl
    simp only [this, Finset.sum_boole]
    have hf : (Finset.univ.filter fun x : Fin 256 => 0 < x.1 ∧ x.1 ≤ m) = Finset.Ioc (⟨0, by omega⟩ : Fin 256) ⟨m, by omega⟩ := by
      ext x; rw [Finset.mem_filter, Finset.mem_Ioc, Fin.lt_def, Fin.le_def]; exact ⟨fun h => h.2, fun h => ⟨Finset.mem_univ _, h⟩⟩
    rw [hf, Fin.card_Ioc]
    simp
  apply BitVec.eq_of_toNat_eq
  rw [WordSum.toNat_sum _ _ (by rw [ht]; omega), ht, BitVec.toNat_ofNat]
  omega

/-- A ratio under the smallest normal number counts none. -/
theorem cnt_small (r : EReal) (h : r < (((2 : ℝ) ^ (-126 : ℤ) : ℝ) : EReal)) : cnt r = 0#32 := by
  have : cnt r = BitVec.ofNat 32 0 := by
    rw [← fold_count 0 (by norm_num)]
    unfold cnt
    congr 1
    funext x
    refine term_eq r x _ ?_
    constructor
    · omega
    · rintro ⟨hx, hr⟩
      exfalso
      apply hr
      by_cases h5 : x.1 = 255
      · rw [h5, top_word]; exact lt_of_lt_of_le h le_top
      · rw [pow_word x.1 hx (by omega)]
        refine lt_of_lt_of_le h (EReal.coe_le_coe_iff.2 (zpow_le_zpow_right₀ (by norm_num) (by omega)))
  exact this

/-- A ratio in the binade of exponent field `m` counts `m`. -/
theorem cnt_binade (r : ℝ) (m : ℕ) (h1 : 1 ≤ m) (h2 : m ≤ 253) (hlo : (2 : ℝ) ^ ((m : ℤ) - 127) ≤ r) (hhi : r < (2 : ℝ) ^ ((m : ℤ) - 126)) :
    cnt (r : EReal) = BitVec.ofNat 32 m := by
  rw [← fold_count m (by omega)]
  unfold cnt
  congr 1
  funext x
  refine term_eq _ x _ ?_
  by_cases h5 : x.1 = 255
  · rw [h5, top_word]
    constructor
    · omega
    · rintro ⟨-, hr⟩; exact absurd (EReal.coe_lt_top r) hr
  · constructor
    · rintro ⟨hx, hm⟩
      refine ⟨hx, ?_⟩
      rw [pow_word x.1 hx (by omega), EReal.coe_lt_coe_iff, not_lt]
      exact le_trans (zpow_le_zpow_right₀ (by norm_num) (by omega)) hlo
    · rintro ⟨hx, hr⟩
      refine ⟨hx, ?_⟩
      rw [pow_word x.1 hx (by omega), EReal.coe_lt_coe_iff, not_lt] at hr
      have := (zpow_lt_zpow_iff_right₀ (by norm_num : (1 : ℝ) < 2)).1 (lt_of_le_of_lt hr hhi)
      omega

/-- The scale and inverse scale of a count of zero are both one. -/
theorem scale_zero : kScale 0#32 = 1 ∧ kInv 0#32 = 1 := by
  have h := pow_word 127 (by norm_num) (by norm_num)
  norm_num at h
  constructor
  · have : kScale 0#32 = Ideal.ofBits .f32 (IntOp.shli ArithUnit.vector (BitVec.ofNat 32 127) 23#32) := rfl
    rw [this]; exact h
  · have : kInv 0#32 = Ideal.ofBits .f32 (IntOp.shli ArithUnit.vector (BitVec.ofNat 32 127) 23#32) := rfl
    rw [this]; exact h

theorem fld_pos (m : ℕ) (h1 : 1 ≤ m) (h2 : m ≤ 253) : fld (BitVec.ofNat 32 m) = BitVec.ofNat 32 m := by
  have hne : BitVec.ofNat 32 m ≠ 0#32 := by
    intro h; have := congrArg BitVec.toNat h; simp at this; omega
  have : IntOp.cmpi .eq (BitVec.ofNat 32 m) 0#32 = 0#1 := by
    show BitVec.ofBool (BitVec.ofNat 32 m == 0#32) = 0#1
    rw [beq_eq_false_iff_ne.2 hne]; rfl
  unfold fld
  rw [this]; rfl

/-- The scale and inverse scale of a positive count. -/
theorem scale_pos (m : ℕ) (h1 : 1 ≤ m) (h2 : m ≤ 252) :
    kScale (BitVec.ofNat 32 m) = (((2 : ℝ) ^ ((m : ℤ) - 126) : ℝ) : EReal)
      ∧ kInv (BitVec.ofNat 32 m) = (((2 : ℝ) ^ (126 - (m : ℤ)) : ℝ) : EReal) := by
  unfold kScale kInv
  rw [fld_pos m h1 (by omega)]
  constructor
  · have : IntOp.addi (BitVec.ofNat 32 m) 1#32 = BitVec.ofNat 32 (m + 1) := by
      show BitVec.ofNat 32 m + 1#32 = _
      apply BitVec.eq_of_toNat_eq; simp
    rw [this, pow_word _ (by omega) (by omega)]
    congr 2; push_cast; ring
  · have : IntOp.subi 253#32 (BitVec.ofNat 32 m) = BitVec.ofNat 32 (253 - m) := by
      show 253#32 - BitVec.ofNat 32 m = _
      apply BitVec.eq_of_toNat_eq; simp; omega
    rw [this, pow_word _ (by omega) (by omega)]
    congr 2; omega

theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

theorem two_word : Ideal.ofBits .f32 1073741824#32 = ((2 : ℝ) : EReal) := by
  have := pow_word 128 (by norm_num) (by norm_num)
  norm_num at this
  exact this

/-- The reference's exponent of a normal ratio `r`: one more than the rounded down binary logarithm. -/
theorem floor_log (r : ℝ) (hr : 0 < r) :
    Ideal.liftRound Int.floor (Ideal.div (Ideal.log (r : EReal)) (Ideal.log (Ideal.ofBits .f32 1073741824#32))) + 1
      = (((⌊Real.log r / Real.log 2⌋ + 1 : ℤ) : ℝ) : EReal) := by
  have hl2 : Real.log 2 ≠ 0 := (Real.log_pos (by norm_num)).ne'
  have e1 : Ideal.log (r : EReal) = ((Real.log r : ℝ) : EReal) := by
    show (if r ≤ 0 then ⊥ else (Real.log r : EReal)) = _
    rw [if_neg (not_le.2 hr)]
  have e2 : Ideal.log ((2 : ℝ) : EReal) = ((Real.log 2 : ℝ) : EReal) := by
    show (if (2 : ℝ) ≤ 0 then ⊥ else (Real.log 2 : EReal)) = _
    rw [if_neg (by norm_num)]
  rw [two_word, e1, e2]
  have e3 : Ideal.div ((Real.log r : ℝ) : EReal) ((Real.log 2 : ℝ) : EReal) = ((Real.log r / Real.log 2 : ℝ) : EReal) := by
    unfold Ideal.div
    rw [if_neg (by rw [← EReal.coe_zero, EReal.coe_eq_coe_iff]; exact hl2), ← EReal.coe_inv, ← EReal.coe_mul]
    rfl
  rw [e3]
  show (((⌊Real.log r / Real.log 2⌋ : ℤ) : ℝ) : EReal) + 1 = _
  rw [← EReal.coe_one, ← EReal.coe_add]
  push_cast
  rfl

/-- The kernel's scale and inverse scale, found by counting, are the powers of two the reference's
    exponent names, for every block whose ratio is under `2^126`. -/
theorem quant (rw : BitVec 32) (a : EReal) (hlt : a * Ideal.ofBits .f32 rw < (((2 : ℝ) ^ (126 : ℤ) : ℝ) : EReal)) :
    kScale (cnt (a * Ideal.ofBits .f32 rw)) = Ideal.exp2 (expOf rw a)
      ∧ kInv (cnt (a * Ideal.ofBits .f32 rw)) = Ideal.exp2 (0 - expOf rw a) := by
  have hz : Ideal.exp2 0 = 1 ∧ Ideal.exp2 (0 - 0) = 1 := by
    have h := exp2_int 0
    have h' : Ideal.exp2 0 = 1 := by simpa using h
    exact ⟨h', by rw [sub_zero]; exact h'⟩
  by_cases hs : a * Ideal.ofBits .f32 rw < (((2 : ℝ) ^ (-126 : ℤ) : ℝ) : EReal)
  · have he : expOf rw a = 0 := by
      unfold expOf
      rw [min_word, if_pos hs]
      simp
    rw [cnt_small _ hs, he]
    exact ⟨scale_zero.1.trans hz.1.symm, scale_zero.2.trans hz.2.symm⟩
  · have ha : a ≠ 0 := by
      rintro rfl
      rw [zero_mul] at hs
      exact hs (EReal.coe_pos.2 (by positivity))
    have he : expOf rw a = Ideal.liftRound Int.floor (Ideal.div (Ideal.log (a * Ideal.ofBits .f32 rw)) (Ideal.log (Ideal.ofBits .f32 1073741824#32))) + 1 := by
      unfold expOf
      rw [if_neg ha, min_word, if_neg hs]
    rw [he]
    clear he
    generalize a * Ideal.ofBits .f32 rw = q at hs hlt
    rw [not_lt] at hs
    induction q using EReal.rec with
    | bot => exact absurd (EReal.bot_lt_coe _) (not_lt.2 hs)
    | top => exact absurd le_top (not_le.2 hlt)
    | coe r =>
      rw [EReal.coe_le_coe_iff] at hs
      rw [EReal.coe_lt_coe_iff] at hlt
      have hr : 0 < r := lt_of_lt_of_le (by positivity) hs
      rw [floor_log r hr]
      have hl2 : 0 < Real.log 2 := Real.log_pos (by norm_num)
      have l1 : (2 : ℝ) ^ (⌊Real.log r / Real.log 2⌋ : ℤ) ≤ r := by
        rw [← Real.log_le_log_iff (by positivity) hr, Real.log_zpow, ← le_div_iff₀ hl2]
        exact Int.floor_le _
      have l2 : r < (2 : ℝ) ^ (⌊Real.log r / Real.log 2⌋ + 1 : ℤ) := by
        rw [← Real.log_lt_log_iff hr (by positivity), Real.log_zpow, ← div_lt_iff₀ hl2]
        push_cast
        exact Int.lt_floor_add_one _
      generalize ⌊Real.log r / Real.log 2⌋ = z at l1 l2
      have z1 : -126 < z + 1 := (zpow_lt_zpow_iff_right₀ (by norm_num : (1 : ℝ) < 2)).1 (lt_of_le_of_lt hs l2)
      have z2 : z < 126 := (zpow_lt_zpow_iff_right₀ (by norm_num : (1 : ℝ) < 2)).1 (lt_of_le_of_lt l1 hlt)
      obtain ⟨m, hm⟩ : ∃ m : ℕ, (m : ℤ) = z + 127 := ⟨(z + 127).toNat, by omega⟩
      have hc := cnt_binade r m (by omega) (by omega) (by rw [show (m : ℤ) - 127 = z by omega]; exact l1) (by rw [show (m : ℤ) - 126 = z + 1 by omega]; exact l2)
      have hp := scale_pos m (by omega) (by omega)
      rw [hc, hp.1, hp.2, exp2_int]
      refine ⟨by rw [show (m : ℤ) - 126 = z + 1 by omega], ?_⟩
      have hn : (0 : EReal) - (((z + 1 : ℤ) : ℝ) : EReal) = (((-(z + 1) : ℤ) : ℝ) : EReal) := by
        rw [← EReal.coe_zero, ← EReal.coe_sub]; push_cast; congr 1; norm_num [sub_eq_add_neg]
      rw [hn, exp2_int, show 126 - (m : ℤ) = -(z + 1) by omega]

/-- The bfloat16 maximum. -/
theorem bfmax : Ideal.ofBits .bf16 0x7F7F#16 = (((255 : ℝ) * 2 ^ (120 : ℤ) : ℝ) : EReal) := by
  simp [Ideal.ofBits, Ideal.ieee, -EReal.coe_mul]

/-- The factor of `x`'s ratio. -/
theorem rwX : Ideal.ofBits .f32 991054117#32 = (((9586981 : ℝ) * 2 ^ (-32 : ℤ) : ℝ) : EReal) := by
  simp [Ideal.ofBits, Ideal.ieee, -EReal.coe_mul]

/-- The factor of `dy`'s ratio. -/
theorem rwD : Ideal.ofBits .f32 932333861#32 = (((9586981 : ℝ) * 2 ^ (-39 : ℤ) : ℝ) : EReal) := by
  simp [Ideal.ofBits, Ideal.ieee, -EReal.coe_mul]

/-- A block whose magnitudes are bfloat16 numbers has a ratio under `2^126`, for `x`. -/
theorem boundX (a : EReal) (h : a ≤ Ideal.ofBits .bf16 0x7F7F#16) : a * Ideal.ofBits .f32 991054117#32 < (((2 : ℝ) ^ (126 : ℤ) : ℝ) : EReal) := by
  rw [bfmax] at h
  rw [rwX]
  refine lt_of_le_of_lt (mul_le_mul_of_nonneg_right h (EReal.coe_nonneg.2 (by positivity))) ?_
  rw [← EReal.coe_mul, EReal.coe_lt_coe_iff]
  norm_num

/-- A block whose magnitudes are bfloat16 numbers has a ratio under `2^126`, for `dy`. -/
theorem boundD (a : EReal) (h : a ≤ Ideal.ofBits .bf16 0x7F7F#16) : a * Ideal.ofBits .f32 932333861#32 < (((2 : ℝ) ^ (126 : ℤ) : ℝ) : EReal) := by
  rw [bfmax] at h
  rw [rwD]
  refine lt_of_le_of_lt (mul_le_mul_of_nonneg_right h (EReal.coe_nonneg.2 (by positivity))) ?_
  rw [← EReal.coe_mul, EReal.coe_lt_coe_iff]
  norm_num

/-- The two patterns the block maxima start from are both minus infinity. -/
theorem init_eq : Ideal.ofBits .bf16 65408#16 = ⊥ ∧ Ideal.ofBits .f32 4286578688#32 = ⊥ := by
  constructor <;> simp [Ideal.ofBits, Ideal.ieee]

end Cert.Proof.Quant
-- ==== Proof.KernelIdealVal.lean ====
module
public import proofs.«01_k».proof.Proof.Quant
@[expose] public section
set_option maxRecDepth 16384
noncomputable section
namespace Cert.Proof.KernelIdealVal
open Idealize.ShloMosaic Idealize.ShloMosaic.TcCoe Idealize.SL.Sem
open Cert.KernelIdeal Cert.KernelIdeal.Gen
open Cert.Proof.Blocks Cert.Proof.Quant

/-- The largest magnitude of a block's channel. -/
theorem ratioB_apply (rw : BitVec 32) (v : Vec Ideal S128x512 .bf16) (c : Fin 512) :
    ratioB (F := Ideal) rw v (ix2 0 c) = ((Finset.fold max (Ideal.ofBits .bf16 65408#16) (fun k => FloatOps.absf (F := Ideal) (φ := .bf16) (v (ix2 k c))) Finset.univ : EReal) * Ideal.ofBits .f32 rw : EReal) := by
  pointwise [ratioB]

/-- The count at a channel. -/
theorem countB_apply (r : FVec Ideal S1x512 .f32) (c : Fin 512) : countB (F := Ideal) r (ix2 0 c) = cnt (r (ix2 0 c)) := by
  pointwise [countB]
  rfl

/-- The scale at a channel. -/
theorem scaleB_apply (rw : BitVec 32) (v : Vec Ideal S128x512 .bf16) (c : Fin 512) :
    scaleB (F := Ideal) rw v (ix2 0 c) = kScale (cnt (ratioB (F := Ideal) rw v (ix2 0 c))) := by
  rw [← countB_apply]
  unfold scaleB
  generalize countB (ratioB rw v) = n
  pointwise [fieldB]
  rfl

/-- The inverse scale at a channel. -/
theorem invB_apply (rw : BitVec 32) (v : Vec Ideal S128x512 .bf16) (c : Fin 512) :
    invB (F := Ideal) rw v (ix2 0 c) = kInv (cnt (ratioB (F := Ideal) rw v (ix2 0 c))) := by
  rw [← countB_apply]
  unfold invB
  generalize countB (ratioB rw v) = n
  pointwise [fieldB]
  rfl

/-- The clipped block at an index. -/
theorem wideB_apply (φ : FTy) (hφ : φ.bits < FTy.bf16.bits) (rw lo hi : BitVec 32) (v : Vec Ideal S128x512 .bf16) (i : Fin 128) (c : Fin 512) :
    wideB (F := Ideal) φ hφ rw lo hi v (ix2 i c) = (min (Ideal.ofBits .f32 hi) (max (Ideal.ofBits .f32 lo) (v (ix2 i c) * invB (F := Ideal) rw v (ix2 0 c))) : EReal) := by
  unfold wideB clipB
  generalize invB rw v = n
  pointwise

/-- The codes at an index. -/
theorem codesB_apply (φ : FTy) (hφ : φ.bits < FTy.bf16.bits) (rw lo hi : BitVec 32) (v : Vec Ideal S128x512 .bf16) (i : Fin 128) (c : Fin 512) :
    codesB (F := Ideal) φ hφ rw lo hi v (ix2 c i) = wideB (F := Ideal) φ hφ rw lo hi v (ix2 i c) := by
  unfold codesB
  generalize wideB φ hφ rw lo hi v = n
  pointwise

/-- The rescaled codes at an index. -/
theorem prodB_apply (φ : FTy) (hφ : φ.bits < FTy.bf16.bits) (rw lo hi : BitVec 32) (v : Vec Ideal S128x512 .bf16) (i : Fin 128) (c : Fin 512) :
    prodB (F := Ideal) φ hφ rw lo hi v (ix2 i c) = (wideB (F := Ideal) φ hφ rw lo hi v (ix2 i c) * scaleB (F := Ideal) rw v (ix2 0 c) : EReal) := by
  unfold prodB
  generalize wideB φ hφ rw lo hi v = n
  generalize scaleB rw v = s
  pointwise

/-- The largest magnitude of block `b` of channel `c`. -/
def am {N : ℕ} (A : (⟨2, ![3072, N]⟩ : Shape).Idx → EReal) (b : Fin 24) (c : Fin N) : EReal :=
  Finset.fold max ⊥ (fun k : Fin 128 => max (A (ix2 ⟨128 * b.1 + k.1, by omega⟩ c)) (-A (ix2 ⟨128 * b.1 + k.1, by omega⟩ c))) Finset.univ

/-- Where every entry's magnitude is at most `B`, so is every block's largest. -/
theorem am_le {N : ℕ} (A : (⟨2, ![3072, N]⟩ : Shape).Idx → EReal) (B : EReal) (h : ∀ j, max (A j) (-A j) ≤ B) (b : Fin 24) (c : Fin N) : am A b c ≤ B :=
  (Finset.fold_max_le _).2 ⟨bot_le, fun _ _ => h _⟩

/-- The ratio of a block of a tile. -/
theorem ratio_blk (rw : BitVec 32) (X : Vec Ideal S3072x512 .bf16) (b : Fin 24) (c : Fin 512) :
    ratioB (F := Ideal) rw (blk X b) (ix2 0 c) = (am X b c * Ideal.ofBits .f32 rw : EReal) := by
  rw [ratioB_apply, init_eq.1]
  rfl

/-- The scales of a tile at an index. -/
theorem scalesT_apply (rw : BitVec 32) (X : Vec Ideal S3072x512 .bf16) (c : Fin 512) (b : Fin 24)
    (h : (am X b c * Ideal.ofBits .f32 rw : EReal) < (((2 : ℝ) ^ (126 : ℤ) : ℝ) : EReal)) :
    scalesT (F := Ideal) rw X (ix2 c b) = Ideal.exp2 (RefIdeal.expOf rw (am X b c)) := by
  show scaleB (F := Ideal) rw (blk X b) (ix2 0 c) = _
  rw [scaleB_apply, ratio_blk]
  exact (quant rw _ h).1

/-- The codes of a tile at an index. -/
theorem codesT_apply (φ : FTy) (hφ : φ.bits < FTy.bf16.bits) (rw lo hi : BitVec 32) (X : Vec Ideal S3072x512 .bf16) (c : Fin 512) (t : Fin 3072)
    (h : (am X ⟨t.1 / 128, by omega⟩ c * Ideal.ofBits .f32 rw : EReal) < (((2 : ℝ) ^ (126 : ℤ) : ℝ) : EReal)) :
    codesT (F := Ideal) φ hφ rw lo hi X (ix2 c t) = (min (Ideal.ofBits .f32 hi) (max (Ideal.ofBits .f32 lo)
      (X (ix2 t c) * Ideal.exp2 (0 - RefIdeal.expOf rw (am X ⟨t.1 / 128, by omega⟩ c)))) : EReal) := by
  show codesB (F := Ideal) φ hφ rw lo hi (blk X ⟨t.1 / 128, by omega⟩) (ix2 c ⟨t.1 % 128, by omega⟩) = _
  rw [codesB_apply, wideB_apply, invB_apply, ratio_blk, (quant rw _ h).2]
  have hx : blk X ⟨t.1 / 128, by omega⟩ (ix2 ⟨t.1 % 128, by omega⟩ c) = X (ix2 t c) := by
    show X (ix2 ⟨128 * (t.1 / 128) + t.1 % 128, _⟩ c) = X (ix2 t c)
    congr 2
    exact Fin.ext (Nat.div_add_mod _ _)
  rw [hx]

/-- The rescaled codes of a tile are its codes times its scales. -/
theorem prodT_apply (φ : FTy) (hφ : φ.bits < FTy.bf16.bits) (rw lo hi : BitVec 32) (X : Vec Ideal S3072x512 .bf16) (c : Fin 512) (t : Fin 3072) :
    prodT (F := Ideal) φ hφ rw lo hi X (ix2 t c)
      = (codesT (F := Ideal) φ hφ rw lo hi X (ix2 c t) * scalesT (F := Ideal) rw X (ix2 c ⟨t.1 / 128, by omega⟩) : EReal) := by
  show prodB (F := Ideal) φ hφ rw lo hi (blk X ⟨t.1 / 128, by omega⟩) (ix2 ⟨t.1 % 128, by omega⟩ c)
    = (codesB (F := Ideal) φ hφ rw lo hi (blk X ⟨t.1 / 128, by omega⟩) (ix2 c ⟨t.1 % 128, by omega⟩)
        * scaleB (F := Ideal) rw (blk X ⟨t.1 / 128, by omega⟩) (ix2 0 c) : EReal)
  rw [prodB_apply, codesB_apply]

open Cert.Proof.KernelVal

/-- A tile of the activations at a channel's place is the channel. -/
theorem tile7_lc {α : Type} (A : S3072x3584.Idx → α) (t : Fin 3072) (c : Fin 3584) : tile7 A (tl7 c) (ix2 t (lc c)) = A (ix2 t c) := by
  show A (ix2 t ⟨512 * (c.1 / 512) + c.1 % 512, _⟩) = A (ix2 t c)
  congr 2
  exact Fin.ext (Nat.div_add_mod _ _)

/-- A tile of the gradients at a channel's place is the channel. -/
theorem tile14_lc {α : Type} (A : S3072x7168.Idx → α) (t : Fin 3072) (c : Fin 7168) : tile14 A (tl14 c) (ix2 t (lc c)) = A (ix2 t c) := by
  show A (ix2 t ⟨512 * (c.1 / 512) + c.1 % 512, _⟩) = A (ix2 t c)
  congr 2
  exact Fin.ext (Nat.div_add_mod _ _)

theorem am7 (A : S3072x3584.Idx → EReal) (b : Fin 24) (c : Fin 3584) : am (tile7 A (tl7 c)) b (lc c) = am A b c := by
  unfold am
  simp only [tile7_lc]

theorem am14 (A : S3072x7168.Idx → EReal) (b : Fin 24) (c : Fin 7168) : am (tile14 A (tl14 c)) b (lc c) = am A b c := by
  unfold am
  simp only [tile14_lc]

section X
variable (A : Vec Ideal S3072x3584 .bf16) (hA : ∀ j, (max (A j) (-A j) : EReal) ≤ Ideal.ofBits .bf16 0x7F7F#16)
include hA

/-- The kernel's scales of `x`, at channel `c` and block `b`. -/
theorem xScales_apply (c : Fin 3584) (b : Fin 24) :
    xScales (F := Ideal) A (ix2 c b) = Ideal.exp2 (RefIdeal.expOf 0x3B124925#32 (am A b c)) := by
  show scalesT (F := Ideal) 0x3B124925#32 (tile7 A (tl7 c)) (ix2 (lc c) b) = _
  rw [scalesT_apply _ _ _ _ (by rw [am7]; exact boundX _ (am_le A _ hA b c)), am7]

/-- The kernel's codes of `x`, at channel `c` and token `t`. -/
theorem xCodes_apply (c : Fin 3584) (t : Fin 3072) :
    xCodes (F := Ideal) A (ix2 c t) = (min (Ideal.ofBits .f32 0x43E00000#32) (max (Ideal.ofBits .f32 0xC3E00000#32)
      (A (ix2 t c) * Ideal.exp2 (0 - RefIdeal.expOf 0x3B124925#32 (am A ⟨t.1 / 128, by omega⟩ c)))) : EReal) := by
  show codesT (F := Ideal) .fp8e4m3 bitsLt_fp8e4m3_bf16 0x3B124925#32 0xC3E00000#32 0x43E00000#32 (tile7 A (tl7 c)) (ix2 (lc c) t) = _
  rw [codesT_apply _ _ _ _ _ _ _ _ (by rw [am7]; exact boundX _ (am_le A _ hA _ c)), am7, tile7_lc]

omit hA in
/-- The kernel's rescaled codes of `x`. -/
theorem xProds_apply (c : Fin 3584) (t : Fin 3072) :
    xProds (F := Ideal) A (ix2 c t) = (xCodes (F := Ideal) A (ix2 c t) * xScales (F := Ideal) A (ix2 c ⟨t.1 / 128, by omega⟩) : EReal) :=
  prodT_apply .fp8e4m3 bitsLt_fp8e4m3_bf16 0x3B124925#32 0xC3E00000#32 0x43E00000#32 (tile7 A (tl7 c)) (lc c) t

end X

section D
variable (A : Vec Ideal S3072x7168 .bf16) (hA : ∀ j, (max (A j) (-A j) : EReal) ≤ Ideal.ofBits .bf16 0x7F7F#16)
include hA

/-- The kernel's scales of `dy`, at channel `c` and block `b`. -/
theorem dyScales_apply (c : Fin 7168) (b : Fin 24) :
    dyScales (F := Ideal) A (ix2 c b) = Ideal.exp2 (RefIdeal.expOf 0x37924925#32 (am A b c)) := by
  show scalesT (F := Ideal) 0x37924925#32 (tile14 A (tl14 c)) (ix2 (lc c) b) = _
  rw [scalesT_apply _ _ _ _ (by rw [am14]; exact boundD _ (am_le A _ hA b c)), am14]

/-- The kernel's codes of `dy`, at channel `c` and token `t`. -/
theorem dyCodes_apply (c : Fin 7168) (t : Fin 3072) :
    dyCodes (F := Ideal) A (ix2 c t) = (min (Ideal.ofBits .f32 0x47600000#32) (max (Ideal.ofBits .f32 0xC7600000#32)
      (A (ix2 t c) * Ideal.exp2 (0 - RefIdeal.expOf 0x37924925#32 (am A ⟨t.1 / 128, by omega⟩ c)))) : EReal) := by
  show codesT (F := Ideal) .fp8e5m2 bitsLt_fp8e5m2_bf16 0x37924925#32 0xC7600000#32 0x47600000#32 (tile14 A (tl14 c)) (ix2 (lc c) t) = _
  rw [codesT_apply _ _ _ _ _ _ _ _ (by rw [am14]; exact boundD _ (am_le A _ hA _ c)), am14, tile14_lc]

omit hA in
/-- The weight gradient: the sum over the 3072 tokens of the products of the rescaled codes. -/
theorem dW_apply (B : Vec Ideal S3072x3584 .bf16) (i : Fin 3584) (j : Fin 7168) :
    dW (F := Ideal) B A (ix2 i j) = (∑ k : Fin 3072, (xCodes (F := Ideal) B (ix2 i k) * xScales (F := Ideal) B (ix2 i ⟨k.1 / 128, by omega⟩)
      * (dyCodes (F := Ideal) A (ix2 j k) * dyScales (F := Ideal) A (ix2 j ⟨k.1 / 128, by omega⟩))) : EReal) := by
  have h : ∀ (P : FVec Ideal S3584x3072 .bf16) (Q : FVec Ideal S3072x512 .bf16) (c : Fin 512),
      matmul (F := Ideal) dot_S3584x3072_S3072x512_S3584x512_1_0_0_1_n_n none P Q (constant S3584x512 .f32 0x00000000#32) (ix2 i c)
        = (∑ k : Fin 3072, P (ix2 i k) * Q (ix2 k c) : EReal) := by
    intro P Q c
    pointwise
  refine (h (xProds B) (prodT .fp8e5m2 bitsLt_fp8e5m2_bf16 0x37924925#32 0xC7600000#32 0x47600000#32 (tile14 A (tl14 j))) (lc j)).trans ?_
  refine Finset.sum_congr rfl fun k _ => ?_
  rw [xProds_apply, prodT_apply]
  rfl

end D

end Cert.Proof.KernelIdealVal
-- ==== Proof.Agree.lean ====
module
public import proofs.«01_k».proof.Proof.KernelIdealVal
public import proofs.«01_k».proof.Pre_finite
@[expose] public section
set_option maxRecDepth 16384
noncomputable section
namespace Cert.Proof.Agree
open Idealize.ShloMosaic Idealize.ShloMosaic.TcCoe Idealize.SL.Sem
open Cert.ReferenceIdeal Cert.ReferenceIdeal.Gen
open Cert.Proof.RefIdeal Cert.Proof.KernelIdealVal Cert.Proof.KernelVal

/-- The shape relations of the precondition's operations. -/
theorem preFacts : Cert.Pre_finite.Facts := ⟨by decide, by decide⟩

/-- The precondition says every magnitude is at most the largest finite bfloat16 number. -/
theorem pre_decode [Cert.Pre_finite.Facts] (x : Vec Ideal S2x1536x3584 .bf16) (dy : Vec Ideal S2x1536x7168 .bf16)
    (h : (Cert.Pre_finite.fn (F := Ideal) x dy).1 = (fun _ => 1#1) ∧ (Cert.Pre_finite.fn (F := Ideal) x dy).2 = (fun _ => 1#1)) :
    (∀ j, (max (x j) (-x j) : EReal) ≤ Ideal.ofBits .bf16 0x7F7F#16) ∧ (∀ j, (max (dy j) (-dy j) : EReal) ≤ Ideal.ofBits .bf16 0x7F7F#16) := by
  have key : ∀ a b : EReal, BitVec.ofBool (decide (a ≤ b)) = 1#1 → a ≤ b := by
    intro a b hab
    by_contra hc
    rw [decide_eq_false hc] at hab
    exact absurd hab (by decide)
  exact ⟨fun j => key _ _ (congrFun h.1 j), fun j => key _ _ (congrFun h.2 j)⟩

section X
variable (x : Vec Ideal S2x1536x3584 .bf16)

/-- The reference's exponent of a block of `x`. -/
theorem pay2_apply (b : Fin 24) (c : Fin 3584) :
    k0_pay2 (F := Ideal) x (ix2 b c) = expOf 991054117#32 (am (xFlat (F := Ideal) x) b c) := by
  rw [pay2_eq, expsX_apply, maxX_apply, Quant.init_eq.2]
  unfold am
  refine congrArg (expOf _) (congrArg (fun f => Finset.fold max ⊥ f Finset.univ) (funext fun k => ?_))
  rw [← pay1_apply]
  rfl

/-- The reference's scales of `x`. -/
theorem pay4_apply (c : Fin 3584) (b : Fin 24) :
    k0_pay4 (F := Ideal) x (ix2 c b) = Ideal.exp2 (expOf 991054117#32 (am (xFlat (F := Ideal) x) b c)) := by
  rw [pay4_eq, scalesX_apply, pay2_apply]
  rfl

/-- The reference's codes of `x`. -/
theorem pay3_apply (c : Fin 3584) (t : Fin 3072) :
    k0_pay3 (F := Ideal) x (ix2 c t) = (min (Ideal.ofBits .f32 1138753536#32) (max (Ideal.ofBits .f32 3286237184#32)
      (xFlat (F := Ideal) x (ix2 t c) * Ideal.exp2 (0 - expOf 991054117#32 (am (xFlat (F := Ideal) x) ⟨t.1 / 128, by omega⟩ c)))) : EReal) := by
  have ht : (⟨128 * (t.1 / 128) + t.1 % 128, by omega⟩ : Fin 3072) = t := Fin.ext (Nat.div_add_mod _ _)
  rw [pay3_eq, codesX_apply, pay2_apply, pay1_apply]
  simp only [ht]
  rfl

variable (hx : ∀ j, (max (x j) (-x j) : EReal) ≤ Ideal.ofBits .bf16 0x7F7F#16)
include hx

/-- The scales of `x` agree. -/
theorem scales_x : xScales (F := Ideal) (xFlat x) = k0_pay4 (F := Ideal) x := by
  funext j
  rw [show j = ix2 (j 0) (j 1) from by ext a; match a with | ⟨0, _⟩ => rfl | ⟨1, _⟩ => rfl]
  exact (xScales_apply (xFlat x) (fun j => hx _) _ _).trans (pay4_apply x _ _).symm

/-- The codes of `x` agree. -/
theorem codes_x : xCodes (F := Ideal) (xFlat x) = k0_pay3 (F := Ideal) x := by
  funext j
  rw [show j = ix2 (j 0) (j 1) from by ext a; match a with | ⟨0, _⟩ => rfl | ⟨1, _⟩ => rfl]
  exact (xCodes_apply (xFlat x) (fun j => hx _) _ _).trans (pay3_apply x _ _).symm

end X

section D
variable (dy : Vec Ideal S2x1536x7168 .bf16)

/-- The reference's exponent of a block of `dy`. -/
theorem pay7_apply (b : Fin 24) (c : Fin 7168) :
    k0_pay7 (F := Ideal) (k0_pay6 dy) (ix2 b c) = expOf 932333861#32 (am (dyFlat (F := Ideal) dy) b c) := by
  rw [pay7_eq, expsD_apply, maxD_apply, Quant.init_eq.2, pay6_eq]
  unfold am
  refine congrArg (expOf _) (congrArg (fun f => Finset.fold max ⊥ f Finset.univ) (funext fun k => ?_))
  rw [← pay5_apply]
  rfl

/-- The reference's scales of `dy`. -/
theorem pay9_apply (c : Fin 7168) (b : Fin 24) :
    k0_pay9 (F := Ideal) (k0_pay6 dy) (ix2 c b) = Ideal.exp2 (expOf 932333861#32 (am (dyFlat (F := Ideal) dy) b c)) := by
  rw [pay9_eq, scalesD_apply, pay7_apply]
  rfl

/-- The reference's codes of `dy`. -/
theorem pay8_apply (c : Fin 7168) (t : Fin 3072) :
    k0_pay8 (F := Ideal) (k0_pay5 dy) (k0_pay6 dy) (ix2 c t) = (min (Ideal.ofBits .f32 1197473792#32) (max (Ideal.ofBits .f32 3344957440#32)
      (dyFlat (F := Ideal) dy (ix2 t c) * Ideal.exp2 (0 - expOf 932333861#32 (am (dyFlat (F := Ideal) dy) ⟨t.1 / 128, by omega⟩ c)))) : EReal) := by
  have ht : (⟨128 * (t.1 / 128) + t.1 % 128, by omega⟩ : Fin 3072) = t := Fin.ext (Nat.div_add_mod _ _)
  rw [pay8_eq, codesD_apply, pay7_apply, pay5_apply]
  simp only [ht]
  rfl

variable (hd : ∀ j, (max (dy j) (-dy j) : EReal) ≤ Ideal.ofBits .bf16 0x7F7F#16)
include hd

/-- The scales of `dy` agree. -/
theorem scales_dy : dyScales (F := Ideal) (dyFlat dy) = k0_pay9 (F := Ideal) (k0_pay6 dy) := by
  funext j
  rw [show j = ix2 (j 0) (j 1) from by ext a; match a with | ⟨0, _⟩ => rfl | ⟨1, _⟩ => rfl]
  exact (dyScales_apply (dyFlat dy) (fun j => hd _) _ _).trans (pay9_apply dy _ _).symm

/-- The codes of `dy` agree. -/
theorem codes_dy : dyCodes (F := Ideal) (dyFlat dy) = k0_pay8 (F := Ideal) (k0_pay5 dy) (k0_pay6 dy) := by
  funext j
  rw [show j = ix2 (j 0) (j 1) from by ext a; match a with | ⟨0, _⟩ => rfl | ⟨1, _⟩ => rfl]
  exact (dyCodes_apply (dyFlat dy) (fun j => hd _) _ _).trans (pay8_apply dy _ _).symm

end D

/-- The weight gradients agree. -/
theorem dw (x : Vec Ideal S2x1536x3584 .bf16) (dy : Vec Ideal S2x1536x7168 .bf16)
    (hx : ∀ j, (max (x j) (-x j) : EReal) ≤ Ideal.ofBits .bf16 0x7F7F#16) (hd : ∀ j, (max (dy j) (-dy j) : EReal) ≤ Ideal.ofBits .bf16 0x7F7F#16) :
    dW (F := Ideal) (xFlat x) (dyFlat dy) = k0_pay10 (F := Ideal) (k0_pay3 x) (k0_pay4 x) (k0_pay5 dy) (k0_pay6 dy) := by
  rw [pay10_eq, ← codes_x x hx, ← scales_x x hx, ← codes_dy dy hd, ← scales_dy dy hd]
  funext j
  rw [show j = ix2 (j 0) (j 1) from by ext a; match a with | ⟨0, _⟩ => rfl | ⟨1, _⟩ => rfl]
  exact (dW_apply (dyFlat dy) (xFlat x) _ _).trans (prodOf_apply _ _ _ _ _ _).symm

/-- A load of the whole of `x` is `x`. -/
theorem ldX (x : Vec Ideal S2x1536x3584 .bf16) : View.ld x r0_0 = x :=
  View.ld_unit_lit _ x (fun a => by fin_cases a <;> rfl)

/-- A load of the whole of `dy` is `dy`. -/
theorem ldD (x : Vec Ideal S2x1536x7168 .bf16) : View.ld x r0_1 = x :=
  View.ld_unit_lit _ x (fun a => by fin_cases a <;> rfl)

/-- The reference's codes of `x`, as its body names them. -/
theorem e11 (x : Vec Ideal S2x1536x3584 .bf16) (dy : Vec Ideal S2x1536x7168 .bf16) : k0_pay11 x dy = k0_pay3 x := congrArg k0_pay3 (ldX x)
/-- The reference's scales of `x`, as its body names them. -/
theorem e12 (x : Vec Ideal S2x1536x3584 .bf16) (dy : Vec Ideal S2x1536x7168 .bf16) : k0_pay12 x dy = k0_pay4 x := congrArg k0_pay4 (ldX x)
/-- The reference's reshaped `dy`, as its body names it. -/
theorem e13 (x : Vec Ideal S2x1536x3584 .bf16) (dy : Vec Ideal S2x1536x7168 .bf16) : k0_pay13 x dy = k0_pay5 dy := congrArg k0_pay5 (ldD dy)
/-- The magnitudes of the reference's reshaped `dy`, as its body names them. -/
theorem e14 (x : Vec Ideal S2x1536x3584 .bf16) (dy : Vec Ideal S2x1536x7168 .bf16) : k0_pay14 x dy = k0_pay6 dy := congrArg k0_pay6 (ldD dy)

section Results
variable (x : Vec Ideal S2x1536x3584 .bf16) (dy : Vec Ideal S2x1536x7168 .bf16)
  (h : (∀ j, (max (x j) (-x j) : EReal) ≤ Ideal.ofBits .bf16 0x7F7F#16) ∧ (∀ j, (max (dy j) (-dy j) : EReal) ≤ Ideal.ofBits .bf16 0x7F7F#16))
include h

/-- The reference's first result is the kernel's. -/
theorem G2_eq : RefValue.G2 (F := Ideal) x dy = dW (xFlat x) (dyFlat dy) := by
  rw [RefValue.G2, e11, e12, e13, e14]
  exact (dw x dy h.1 h.2).symm
/-- The reference's second result is the kernel's. -/
theorem G3_eq : RefValue.G3 (F := Ideal) x dy = xCodes (xFlat x) := by
  rw [RefValue.G3, e11]
  exact (codes_x x h.1).symm
/-- The reference's third result is the kernel's. -/
theorem G4_eq : RefValue.G4 (F := Ideal) x dy = xScales (xFlat x) := by
  rw [RefValue.G4, e12]
  exact (scales_x x h.1).symm
/-- The reference's fourth result is the kernel's. -/
theorem G5_eq : RefValue.G5 (F := Ideal) x dy = dyCodes (dyFlat dy) := by
  rw [RefValue.G5, e13, e14]
  exact (codes_dy dy h.2).symm
/-- The reference's fifth result is the kernel's. -/
theorem G6_eq : RefValue.G6 (F := Ideal) x dy = dyScales (dyFlat dy) := by
  rw [RefValue.G6, e14]
  exact (scales_dy dy h.2).symm

end Results

section Run
variable (m : (ℓ : Loc nD τ sig) → Buf (Elt Ideal) ℓ) (ρ : Dev nD → PrngReg)
  (a0 : Dev nD → Vec Ideal S2x1536x3584 .bf16) (a1 : Dev nD → Vec Ideal S2x1536x7168 .bf16)

/-- Every run of the reference from arguments of finite bfloat16 numbers ends with the kernel's five results of them. -/
theorem refRun (e : ∀ c : Dev nD, m ((c : Thread nD τ).loc main_arg0) = a0 c ∧ m ((c : Thread nD τ).loc main_arg1) = a1 c)
    (hb : ∀ c, (∀ j, (max (a0 c j) (-a0 c j) : EReal) ≤ Ideal.ofBits .bf16 0x7F7F#16) ∧ (∀ j, (max (a1 c j) (-a1 c j) : EReal) ≤ Ideal.ofBits .bf16 0x7F7F#16)) :
    θ_run (defs (F := Ideal)) (onTc (τ := τ) (main (F := Ideal))) ⟨m, fun _ => 0, ρ⟩ fun r => ∀ c : Dev nD,
      r.2.mem ((c : Thread nD τ).loc main_v0_0) = dW (xFlat (a0 c)) (dyFlat (a1 c))
      ∧ r.2.mem ((c : Thread nD τ).loc main_v0_1) = xCodes (xFlat (a0 c))
      ∧ r.2.mem ((c : Thread nD τ).loc main_v0_2) = xScales (xFlat (a0 c))
      ∧ r.2.mem ((c : Thread nD τ).loc main_v0_3) = dyCodes (dyFlat (a1 c))
      ∧ r.2.mem ((c : Thread nD τ).loc main_v0_4) = dyScales (dyFlat (a1 c))
      ∧ r.2.mem ((c : Thread nD τ).loc main_arg0) = m ((c : Thread nD τ).loc main_arg0)
      ∧ r.2.mem ((c : Thread nD τ).loc main_arg1) = m ((c : Thread nD τ).loc main_arg1) := by
  refine (θ_run _ _ _).mono (fun r h c => ?_) (RefValue.run (F := Ideal) m ρ)
  obtain ⟨h0, h1, h2, h3, h4, h5, h6⟩ := h c
  rw [(e c).1, (e c).2] at h0 h1 h2 h3 h4
  exact ⟨h0.trans (G2_eq _ _ (hb c)), h1.trans (G3_eq _ _ (hb c)), h2.trans (G4_eq _ _ (hb c)),
    h3.trans (G5_eq _ _ (hb c)), h4.trans (G6_eq _ _ (hb c)), h5, h6⟩

end Run

end Cert.Proof.Agree
-- ==== Proof.lean ====
/- The claims of test_k, proved: the frames by the generated `Gen.frame`s, and the agreement of the
   kernel's five results with the reference's, over the reals, by `Cert.Proof.Agree`. -/
module

public import proofs.«01_k».proof.Defs
public import proofs.«01_k».proof.Proof.Gen.Kernel.Frame
public import proofs.«01_k».proof.Proof.Gen.KernelIdeal.Frame
public import proofs.«01_k».proof.Proof.Agree

@[expose] public section

open Idealize.ShloMosaic Idealize.ShloMosaic.TcCoe Idealize.SL.Sem

/-- Where both arguments hold finite bfloat16 numbers, every run of the kernel and every run of the
    reference, from the same arguments, end with the same five results. -/
theorem Cert.Proof.algebraic :
    Cert.algebraic_KernelIdeal_ReferenceIdeal_pre_finite (hKernelIdeal := Cert.KernelIdeal.Gen.facts)
      (hReferenceIdeal := Cert.ReferenceIdeal.Gen.facts) (hPre_finite := Cert.Proof.Agree.preFacts) := by
  intro m ρ m' ρ' hpre hag
  exact ⟨_, _, _, _, _, Cert.Proof.KernelVal.run (F := Ideal) m ρ,
    Cert.Proof.Agree.refRun m' ρ'
      (fun c => m ((c.tc : Thread Cert.KernelIdeal.nD Cert.KernelIdeal.τ).loc Cert.KernelIdeal.main_arg0))
      (fun c => m ((c.tc : Thread Cert.KernelIdeal.nD Cert.KernelIdeal.τ).loc Cert.KernelIdeal.main_arg1)) hag
      (fun c => @Cert.Proof.Agree.pre_decode Cert.Proof.Agree.preFacts _ _ (hpre c))⟩

/-- The certificate's claim. -/
theorem Cert.Proof.claim : Cert.Claim :=
  ⟨Cert.Kernel.Gen.facts, Cert.KernelIdeal.Gen.facts, Cert.ReferenceIdeal.Gen.facts, Cert.Proof.Agree.preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, Cert.Proof.algebraic⟩
